-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_real_rows_pre_finite_qk [hKernelIdeal : Cert.KernelIdeal.Facts] [hReferenceIdeal : Cert.ReferenceIdeal.Facts] [hPre_finite_qk : Cert.Pre_finite_qk.Facts] [hOn_real_rows : Cert.On_real_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![82944, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v5) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![82944, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v55) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_on_qkv_real [hKernel4Ideal : Cert.Kernel4Ideal.Facts] [hReference4Ideal : Cert.Reference4Ideal.Facts] [hOn_qkv_real : Cert.On_qkv_real.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)) (v2 : (c : Dev Cert.Kernel4Ideal.nD) → Buf (Elt Ideal) ((c.tc : Thread Cert.Kernel4Ideal.nD Cert.Kernel4Ideal.τ).loc Cert.Kernel4Ideal.main_v26_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![82944, 1024]⟩ : Shape).Idx, (Cert.On_qkv_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 i = 1#1 → r.2.mem ((c.tc : Thread Cert.Kernel4Ideal.nD Cert.Kernel4Ideal.τ).loc Cert.Kernel4Ideal.main_v26_0) i = v0 c i)
          ∧ (∀ i : (⟨2, ![82944, 1024]⟩ : Shape).Idx, (Cert.On_qkv_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 i = 1#1 → r.2.mem ((c.tc : Thread Cert.Kernel4Ideal.nD Cert.Kernel4Ideal.τ).loc Cert.Kernel4Ideal.main_v26_1) i = v1 c i)
          ∧ (∀ i : (⟨2, ![82944, 1024]⟩ : Shape).Idx, (Cert.On_qkv_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 i = 1#1 → r.2.mem ((c.tc : Thread Cert.Kernel4Ideal.nD Cert.Kernel4Ideal.τ).loc Cert.Kernel4Ideal.main_v26_2) i = v2 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![82944, 1024]⟩ : Shape).Idx, (Cert.On_qkv_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 i = 1#1 → r.2.mem ((c.tc : Thread Cert.Reference4Ideal.nD Cert.Reference4Ideal.τ).loc Cert.Reference4Ideal.main_v93) i = v0 c i)
          ∧ (∀ i : (⟨2, ![82944, 1024]⟩ : Shape).Idx, (Cert.On_qkv_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 i = 1#1 → r.2.mem ((c.tc : Thread Cert.Reference4Ideal.nD Cert.Reference4Ideal.τ).loc Cert.Reference4Ideal.main_v95) i = v1 c i)
          ∧ (∀ i : (⟨2, ![82944, 1024]⟩ : Shape).Idx, (Cert.On_qkv_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 i = 1#1 → r.2.mem ((c.tc : Thread Cert.Reference4Ideal.nD Cert.Reference4Ideal.τ).loc Cert.Reference4Ideal.main_v97) i = v2 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hOn_real_rows : Cert.On_real_rows.Facts) (hOn_qkv_real : Cert.On_qkv_real.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_real_rows_pre_finite_qk (hKernelIdeal := hKernelIdeal) (hReferenceIdeal := hReferenceIdeal) (hPre_finite_qk := hPre_finite_qk) (hOn_real_rows := hOn_real_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_qkv_real (hKernel4Ideal := hKernel4Ideal) (hReference4Ideal := hReference4Ideal) (hOn_qkv_real := hOn_qkv_real)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_qkv_real.lean ====
abbrev S82944x1024 : Shape := ⟨2, ![82944, 1024]⟩
abbrev S1024 : Shape := ⟨1, ![1024]⟩
abbrev S1024x3072 : Shape := ⟨2, ![1024, 3072]⟩
abbrev S_ : Shape := ⟨0, ![]⟩

class Facts : Prop where
  bcast_S_S82944x1024 : S_.BroadcastsInDim S82944x1024 (![] : Fin 0 → Fin S82944x1024.rank)

variable [Facts]

def fn {F : FTy → Type} [FloatOps F] (main_arg0 : FVec F S82944x1024 .f32) (main_arg1 : FVec F S1024 .f32) (main_arg2 : FVec F S1024x3072 .f32) : IVec S82944x1024 1 × IVec S82944x1024 1 × IVec S82944x1024 1 :=
  let main_v0 : IVec S82944x1024 32 := iotaInDim S82944x1024 32 0
  let main_c : IVec S_ 32 := constantI S_ 32 82560#32
  let main_v1 : IVec S82944x1024 32 := broadcastInDim S82944x1024 ![] bcast_S_S82944x1024 main_c
  let main_v2 : IVec S82944x1024 1 := cmpi .slt main_v0 main_v1
  (main_v2, main_v2, main_v2)
-- ==== On_real_rows.lean ====
abbrev S82944x1024 : Shape := ⟨2, ![82944, 1024]⟩
abbrev S64 : Shape := ⟨1, ![64]⟩
abbrev S128 : Shape := ⟨1, ![128]⟩
abbrev S_ : Shape := ⟨0, ![]⟩

class Facts : Prop where
  bcast_S_S82944x1024 : S_.BroadcastsInDim S82944x1024 (![] : Fin 0 → Fin S82944x1024.rank)

variable [Facts]

def fn {F : FTy → Type} [FloatOps F] (main_arg0 : FVec F S82944x1024 .bf16) (main_arg1 : FVec F S82944x1024 .bf16) (main_arg2 : FVec F S82944x1024 .bf16) (main_arg3 : FVec F S64 .f32) (main_arg4 : FVec F S64 .f32) (main_arg5 : FVec F S64 .f32) (main_arg6 : FVec F S64 .f32) (main_arg7 : FVec F S128 .f32) : IVec S82944x1024 1 :=
  let main_v0 : IVec S82944x1024 32 := iotaInDim S82944x1024 32 0
  let main_c : IVec S_ 32 := constantI S_ 32 82560#32
  let main_v1 : IVec S82944x1024 32 := broadcastInDim S82944x1024 ![] bcast_S_S82944x1024 main_c
  let main_v2 : IVec S82944x1024 1 := cmpi .slt main_v0 main_v1
  main_v2
-- ==== Pre_finite_qk.lean ====
abbrev S82944x1024 : Shape := ⟨2, ![82944, 1024]⟩
abbrev S64 : Shape := ⟨1, ![64]⟩
abbrev S128 : Shape := ⟨1, ![128]⟩
abbrev S82560x1024 : Shape := ⟨2, ![82560, 1024]⟩
abbrev S_ : Shape := ⟨0, ![]⟩

class Facts : Prop where
  slices_S82944x1024_S82560x1024_0_0 : S82944x1024.Slices ![0, 0] S82560x1024
  bitsLt_bf16_f32 : FTy.bits .bf16 < FTy.bits .f32
  bcast_S_S82560x1024 : S_.BroadcastsInDim S82560x1024 (![] : Fin 0 → Fin S82560x1024.rank)

variable [Facts]

def fn {F : FTy → Type} [FloatOps F] (main_arg0 : FVec F S82944x1024 .bf16) (main_arg1 : FVec F S82944x1024 .bf16) (main_arg2 : FVec F S82944x1024 .bf16) (main_arg3 : FVec F S64 .f32) (main_arg4 : FVec F S64 .f32) (main_arg5 : FVec F S64 .f32) (main_arg6 : FVec F S64 .f32) (main_arg7 : FVec F S128 .f32) : IVec S82560x1024 1 :=
  let main_v0 : FVec F S82560x1024 .bf16 := (extractStridedSlice S82560x1024 ![0, 0] · slices_S82944x1024_S82560x1024_0_0) main_arg0
  let main_v1 : FVec F S82560x1024 .f32 := (extf .f32 · bitsLt_bf16_f32) main_v0
  let main_v2 : FVec F S82560x1024 .f32 := Host.absf main_v1
  let main_cst : FVec F S_ .f32 := constant S_ .f32 0x7F800000#32
  let main_v3 : FVec F S82560x1024 .f32 := broadcastInDim S82560x1024 ![] bcast_S_S82560x1024 main_cst
  let main_v4 : IVec S82560x1024 1 := cmpf .olt main_v2 main_v3
  let main_v5 : FVec F S82560x1024 .bf16 := (extractStridedSlice S82560x1024 ![0, 0] · slices_S82944x1024_S82560x1024_0_0) main_arg1
  let main_v6 : FVec F S82560x1024 .f32 := (extf .f32 · bitsLt_bf16_f32) main_v5
  let main_v7 : FVec F S82560x1024 .f32 := Host.absf main_v6
  let main_cst_0 : FVec F S_ .f32 := constant S_ .f32 0x7F800000#32
  let main_v8 : FVec F S82560x1024 .f32 := broadcastInDim S82560x1024 ![] bcast_S_S82560x1024 main_cst_0
  let main_v9 : IVec S82560x1024 1 := cmpf .olt main_v7 main_v8
  let main_v10 : IVec S82560x1024 1 := andi main_v4 main_v9
  main_v10
-- ==== Kernel.lean ====
abbrev S82944x1024 : Shape := ⟨2, ![82944, 1024]⟩
abbrev S64 : Shape := ⟨1, ![64]⟩
abbrev S128 : Shape := ⟨1, ![128]⟩
abbrev S1x64 : Shape := ⟨2, ![1, 64]⟩
abbrev S1x128 : Shape := ⟨2, ![1, 128]⟩
abbrev S2064x128 : Shape := ⟨2, ![2064, 128]⟩
abbrev S2176x128 : Shape := ⟨2, ![2176, 128]⟩
abbrev S112x128 : Shape := ⟨2, ![112, 128]⟩
abbrev S1 : Shape := ⟨1, ![1]⟩
abbrev S1x1 : Shape := ⟨2, ![1, 1]⟩
abbrev S1x2176 : Shape := ⟨2, ![1, 2176]⟩
abbrev S688x128 : Shape := ⟨2, ![688, 128]⟩
abbrev S688x2176 : Shape := ⟨2, ![688, 2176]⟩
abbrev S688 : Shape := ⟨1, ![688]⟩
abbrev S688x1 : Shape := ⟨2, ![688, 1]⟩

abbrev nBuf : Space → Nat
  | .hbm => 14
  | .vmem => 16
  | .smem => 0
  | _ => 0

abbrev bufTy : (tb : Table) → Fin (tcTables nBuf tb) → BufTy
  | .hbm, ⟨0, _⟩ => ⟨S82944x1024, .bf16⟩
  | .hbm, ⟨1, _⟩ => ⟨S82944x1024, .bf16⟩
  | .hbm, ⟨2, _⟩ => ⟨S82944x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x128, .f32⟩
  | .hbm, ⟨13, _⟩ => ⟨S82944x1024, .bf16⟩
  | .local _ .vmem, ⟨0, _⟩ => ⟨S2064x128, .bf16⟩
  | .local _ .vmem, ⟨1, _⟩ => ⟨S2064x128, .bf16⟩
  | .local _ .vmem, ⟨2, _⟩ => ⟨S2064x128, .bf16⟩
  | .local _ .vmem, ⟨3, _⟩ => ⟨S2064x128, .bf16⟩
  | .local _ .vmem, ⟨4, _⟩ => ⟨S2064x128, .bf16⟩
  | .local _ .vmem, ⟨5, _⟩ => ⟨S2064x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S2064x128, .bf16⟩
  | .local _ .vmem, ⟨12, _⟩ => ⟨S2064x128, .bf16⟩
  | .local _ .vmem, ⟨13, _⟩ => ⟨S2176x128, .bf16⟩
  | .local _ .vmem, ⟨14, _⟩ => ⟨S2176x128, .bf16⟩
  | .local _ .vmem, ⟨15, _⟩ => ⟨S2176x128, .bf16⟩
  | _, _ => ⟨S82944x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![40, 8], ![false, false]⟩

@[reducible] def k0_t1_loop : Scf.Loop 32 :=
  let c0_i32 : BitVec 32 := 0#32
  let c3_i32 : BitVec 32 := 3#32
  let v59 : BitVec 32 := Scalar.addi c0_i32 c3_i32
  let c1_i32 : BitVec 32 := 1#32
  ⟨c0_i32, v59, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c688_i32 : BitVec 32 := 688#32
  let v60 : BitVec 32 := Scalar.muli arg14 c688_i32
  v60
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c688_i32 : BitVec 32 := 688#32
  let v60 : BitVec 32 := Scalar.muli arg14 c688_i32
  let v61 : BitVec 32 := v60
  let v62 : Index := Scalar.indexCast v61
  let c0_35 : Index := 0#32
  ![v62.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2064x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S82944x1024 : Shape := ⟨2, ![82944, 1024]⟩
abbrev S64 : Shape := ⟨1, ![64]⟩
abbrev S128 : Shape := ⟨1, ![128]⟩
abbrev S82560x1024 : Shape := ⟨2, ![82560, 1024]⟩
abbrev S40x2064x8x2x64 : Shape := ⟨5, ![40, 2064, 8, 2, 64]⟩
abbrev S40x2064x8x128 : Shape := ⟨4, ![40, 2064, 8, 128]⟩
abbrev S_ : Shape := ⟨0, ![]⟩
abbrev S40x8x2x2064x2064 : Shape := ⟨5, ![40, 8, 2, 2064, 2064]⟩
abbrev S40x8x2x2064 : Shape := ⟨4, ![40, 8, 2, 2064]⟩
abbrev S40x8x2x2064x1 : Shape := ⟨5, ![40, 8, 2, 2064, 1]⟩
abbrev S40x8x1x2064x2064 : Shape := ⟨5, ![40, 8, 1, 2064, 2064]⟩
abbrev S40x8x2064x2064 : Shape := ⟨4, ![40, 8, 2064, 2064]⟩
abbrev S40x8x128x2064 : Shape := ⟨4, ![40, 8, 128, 2064]⟩
abbrev S40x2064x8 : Shape := ⟨3, ![40, 2064, 8]⟩
abbrev S40x2064x8x1 : Shape := ⟨4, ![40, 2064, 8, 1]⟩
abbrev S1x1x1x128 : Shape := ⟨4, ![1, 1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S82944x1024, .bf16⟩
  | .hbm, ⟨1, _⟩ => ⟨S82944x1024, .bf16⟩
  | .hbm, ⟨2, _⟩ => ⟨S82944x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S82560x1024, .bf16⟩
  | .hbm, ⟨9, _⟩ => ⟨S82560x1024, .f32⟩
  | .hbm, ⟨10, _⟩ => ⟨S40x2064x8x2x64, .f32⟩
  | .hbm, ⟨11, _⟩ => ⟨S82560x1024, .bf16⟩
  | .hbm, ⟨12, _⟩ => ⟨S82560x1024, .f32⟩
  | .hbm, ⟨13, _⟩ => ⟨S40x2064x8x2x64, .f32⟩
  | .hbm, ⟨14, _⟩ => ⟨S82560x1024, .bf16⟩
  | .hbm, ⟨15, _⟩ => ⟨S82560x1024, .f32⟩
  | .hbm, ⟨16, _⟩ => ⟨S40x2064x8x128, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S40x8x2x2064x2064, .f32⟩
  | .hbm, ⟨29, _⟩ => ⟨S_, .f32⟩
  | .hbm, ⟨30, _⟩ => ⟨S40x8x2x2064, .f32⟩
  | .hbm, ⟨31, _⟩ => ⟨S_, .f32⟩
  | .hbm, ⟨32, _⟩ => ⟨S40x8x2x2064, .f32⟩
  | .hbm, ⟨33, _⟩ => ⟨S40x8x2x2064, .f32⟩
  | .hbm, ⟨34, _⟩ => ⟨S40x8x2x2064x1, .f32⟩
  | .hbm, ⟨35, _⟩ => ⟨S40x8x2x2064x2064, .f32⟩
  | .hbm, ⟨36, _⟩ => ⟨S40x8x2x2064x2064, .f32⟩
  | .hbm, ⟨37, _⟩ => ⟨S40x8x2x2064x2064, .f32⟩
  | .hbm, ⟨38, _⟩ => ⟨S_, .f32⟩
  | .hbm, ⟨39, _⟩ => ⟨S40x8x2x2064, .f32⟩
  | .hbm, ⟨40, _⟩ => ⟨S40x8x2x2064x1, .f32⟩
  | .hbm, ⟨41, _⟩ => ⟨S40x8x2x2064x2064, .f32⟩
  | .hbm, ⟨42, _⟩ => ⟨S40x8x2x2064x2064, .f32⟩
  | .hbm, ⟨43, _⟩ => ⟨S40x8x1x2064x2064, .f32⟩
  | .hbm, ⟨44, _⟩ => ⟨S40x8x2064x2064, .f32⟩
  | .hbm, ⟨45, _⟩ => ⟨S40x8x1x2064x2064, .f32⟩
  | .hbm, ⟨46, _⟩ => ⟨S40x8x2064x2064, .f32⟩
  | .hbm, ⟨47, _⟩ => ⟨S40x8x2064x2064, .f32⟩
  | .hbm, ⟨48, _⟩ => ⟨S40x8x2064x2064, .f32⟩
  | .hbm, ⟨49, _⟩ => ⟨S40x8x2064x2064, .f32⟩
  | .hbm, ⟨50, _⟩ => ⟨S40x8x128x2064, .f32⟩
  | .hbm, ⟨51, _⟩ => ⟨S40x2064x8x128, .f32⟩
  | .hbm, ⟨52, _⟩ => ⟨S40x2064x8x128, .f32⟩
  | .hbm, ⟨53, _⟩ => ⟨S_, .f32⟩
  | .hbm, ⟨54, _⟩ => ⟨S40x2064x8, .f32⟩
  | .hbm, ⟨55, _⟩ => ⟨S40x2064x8x1, .f32⟩
  | .hbm, ⟨56, _⟩ => ⟨S_, .f32⟩
  | .hbm, ⟨57, _⟩ => ⟨S40x2064x8x1, .f32⟩
  | .hbm, ⟨58, _⟩ => ⟨S40x2064x8x1, .f32⟩
  | .hbm, ⟨59, _⟩ => ⟨S_, .f32⟩
  | .hbm, ⟨60, _⟩ => ⟨S40x2064x8x1, .f32⟩
  | .hbm, ⟨61, _⟩ => ⟨S40x2064x8x1, .f32⟩
  | .hbm, ⟨62, _⟩ => ⟨S40x2064x8x1, .f32⟩
  | .hbm, ⟨63, _⟩ => ⟨S40x2064x8x128, .f32⟩
  | .hbm, ⟨64, _⟩ => ⟨S40x2064x8x128, .f32⟩
  | .hbm, ⟨65, _⟩ => ⟨S1x1x1x128, .f32⟩
  | .hbm, ⟨66, _⟩ => ⟨S40x2064x8x128, .f32⟩
  | .hbm, ⟨67, _⟩ => ⟨S40x2064x8x128, .f32⟩
  | .hbm, ⟨68, _⟩ => ⟨S_, .f32⟩
  | .hbm, ⟨69, _⟩ => ⟨S40x2064x8x128, .f32⟩
  | .hbm, ⟨70, _⟩ => ⟨S40x2064x8x128, .f32⟩
  | .hbm, ⟨71, _⟩ => ⟨S82560x1024, .f32⟩
  | .hbm, ⟨72, _⟩ => ⟨S_, .i32⟩
  | .hbm, ⟨73, _⟩ => ⟨S_, .f32⟩
  | .hbm, ⟨74, _⟩ => ⟨S82944x1024, .f32⟩
  | .hbm, ⟨75, _⟩ => ⟨S82944x1024, .bf16⟩
  | _, _ => ⟨S82944x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel2.lean ====
abbrev S82944x1024 : Shape := ⟨2, ![82944, 1024]⟩
abbrev S1024 : Shape := ⟨1, ![1024]⟩
abbrev S1024x5184 : Shape := ⟨2, ![1024, 5184]⟩
abbrev S1024x64 : Shape := ⟨2, ![1024, 64]⟩
abbrev S1024x32 : Shape := ⟨2, ![1024, 32]⟩
abbrev S1024x4x8 : Shape := ⟨3, ![1024, 4, 8]⟩
abbrev S_ : Shape := ⟨0, ![]⟩
abbrev S1024x4x112 : Shape := ⟨3, ![1024, 4, 112]⟩
abbrev S1024x4x128 : Shape := ⟨3, ![1024, 4, 128]⟩
abbrev S1024x512 : Shape := ⟨2, ![1024, 512]⟩
abbrev S1024x5120 : Shape := ⟨2, ![1024, 5120]⟩
abbrev S1024x5632 : Shape := ⟨2, ![1024, 5632]⟩
abbrev S1x1024 : Shape := ⟨2, ![1, 1024]⟩
abbrev S82944x2048 : Shape := ⟨2, ![82944, 2048]⟩
abbrev S82944x3072 : Shape := ⟨2, ![82944, 3072]⟩
abbrev S82944x512 : Shape := ⟨2, ![82944, 512]⟩
abbrev S256x1024 : Shape := ⟨2, ![256, 1024]⟩
abbrev S256x2048 : Shape := ⟨2, ![256, 2048]⟩
abbrev S256x3072 : Shape := ⟨2, ![256, 3072]⟩
abbrev S256x512 : Shape := ⟨2, ![256, 512]⟩
abbrev S256 : Shape := ⟨1, ![256]⟩
abbrev S256x1 : Shape := ⟨2, ![256, 1]⟩
abbrev S1024x2048 : Shape := ⟨2, ![1024, 2048]⟩
abbrev S1024x3072 : Shape := ⟨2, ![1024, 3072]⟩

abbrev nBuf : Space → Nat
  | .hbm => 19
  | .vmem => 10
  | .smem => 0
  | _ => 0

abbrev bufTy : (tb : Table) → Fin (tcTables nBuf tb) → BufTy
  | .hbm, ⟨0, _⟩ => ⟨S82944x1024, .f32⟩
  | .hbm, ⟨1, _⟩ => ⟨S1024, .f32⟩
  | .hbm, ⟨2, _⟩ => ⟨S1024x5184, .f32⟩
  | .hbm, ⟨3, _⟩ => ⟨S1024x64, .f32⟩
  | .hbm, ⟨4, _⟩ => ⟨S1024x32, .f32⟩
  | .hbm, ⟨5, _⟩ => ⟨S1024x4x8, .f32⟩
  | .hbm, ⟨6, _⟩ => ⟨S1024x32, .f32⟩
  | .hbm, ⟨7, _⟩ => ⟨S1024x4x8, .f32⟩
  | .hbm, ⟨8, _⟩ => ⟨S_, .f32⟩
  | .hbm, ⟨9, _⟩ => ⟨S1024x4x112, .f32⟩
  | .hbm, ⟨10, _⟩ => ⟨S1024x4x128, .f32⟩
  | .hbm, ⟨11, _⟩ => ⟨S1024x512, .f32⟩
  | .hbm, ⟨12, _⟩ => ⟨S1024x5120, .f32⟩
  | .hbm, ⟨13, _⟩ => ⟨S1024x5632, .f32⟩
  | .hbm, ⟨14, _⟩ => ⟨S1024x5632, .bf16⟩
  | .hbm, ⟨15, _⟩ => ⟨S1x1024, .f32⟩
  | .hbm, ⟨16, _⟩ => ⟨S82944x2048, .bf16⟩
  | .hbm, ⟨17, _⟩ => ⟨S82944x3072, .bf16⟩
  | .hbm, ⟨18, _⟩ => ⟨S82944x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S256x2048, .bf16⟩
  | .local _ .vmem, ⟨5, _⟩ => ⟨S256x2048, .bf16⟩
  | .local _ .vmem, ⟨6, _⟩ => ⟨S256x3072, .bf16⟩
  | .local _ .vmem, ⟨7, _⟩ => ⟨S256x3072, .bf16⟩
  | .local _ .vmem, ⟨8, _⟩ => ⟨S256x512, .f32⟩
  | .local _ .vmem, ⟨9, _⟩ => ⟨S256x512, .f32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![324], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S82944x1024 : Shape := ⟨2, ![82944, 1024]⟩
abbrev S1024 : Shape := ⟨1, ![1024]⟩
abbrev S1024x5184 : Shape := ⟨2, ![1024, 5184]⟩
abbrev S_ : Shape := ⟨0, ![]⟩
abbrev S82944 : Shape := ⟨1, ![82944]⟩
abbrev S82944x1 : Shape := ⟨2, ![82944, 1]⟩
abbrev S1x1024 : Shape := ⟨2, ![1, 1024]⟩
abbrev S82944x5184 : Shape := ⟨2, ![82944, 5184]⟩
abbrev S82944x2048 : Shape := ⟨2, ![82944, 2048]⟩
abbrev S82944x3072 : Shape := ⟨2, ![82944, 3072]⟩
abbrev S82944x64 : Shape := ⟨2, ![82944, 64]⟩
abbrev S82944x32 : Shape := ⟨2, ![82944, 32]⟩
abbrev S82944x4x8 : Shape := ⟨3, ![82944, 4, 8]⟩
abbrev S82944x4x16 : Shape := ⟨3, ![82944, 4, 16]⟩
abbrev S82944x4x128 : Shape := ⟨3, ![82944, 4, 128]⟩
abbrev S82944x512 : Shape := ⟨2, ![82944, 512]⟩

abbrev nBuf : Space → Nat
  | .hbm => 34
  | .vmem => 0
  | .smem => 0
  | _ => 0

abbrev bufTy : (tb : Table) → Fin (tcTables nBuf tb) → BufTy
  | .hbm, ⟨0, _⟩ => ⟨S82944x1024, .f32⟩
  | .hbm, ⟨1, _⟩ => ⟨S1024, .f32⟩
  | .hbm, ⟨2, _⟩ => ⟨S1024x5184, .f32⟩
  | .hbm, ⟨3, _⟩ => ⟨S82944x1024, .f32⟩
  | .hbm, ⟨4, _⟩ => ⟨S_, .f32⟩
  | .hbm, ⟨5, _⟩ => ⟨S82944, .f32⟩
  | .hbm, ⟨6, _⟩ => ⟨S82944x1, .f32⟩
  | .hbm, ⟨7, _⟩ => ⟨S_, .f32⟩
  | .hbm, ⟨8, _⟩ => ⟨S82944x1, .f32⟩
  | .hbm, ⟨9, _⟩ => ⟨S82944x1, .f32⟩
  | .hbm, ⟨10, _⟩ => ⟨S_, .f32⟩
  | .hbm, ⟨11, _⟩ => ⟨S82944x1, .f32⟩
  | .hbm, ⟨12, _⟩ => ⟨S82944x1, .f32⟩
  | .hbm, ⟨13, _⟩ => ⟨S82944x1, .f32⟩
  | .hbm, ⟨14, _⟩ => ⟨S82944x1024, .f32⟩
  | .hbm, ⟨15, _⟩ => ⟨S82944x1024, .f32⟩
  | .hbm, ⟨16, _⟩ => ⟨S1x1024, .f32⟩
  | .hbm, ⟨17, _⟩ => ⟨S82944x1024, .f32⟩
  | .hbm, ⟨18, _⟩ => ⟨S82944x1024, .f32⟩
  | .hbm, ⟨19, _⟩ => ⟨S82944x5184, .f32⟩
  | .hbm, ⟨20, _⟩ => ⟨S82944x2048, .f32⟩
  | .hbm, ⟨21, _⟩ => ⟨S82944x3072, .f32⟩
  | .hbm, ⟨22, _⟩ => ⟨S82944x64, .f32⟩
  | .hbm, ⟨23, _⟩ => ⟨S82944x32, .f32⟩
  | .hbm, ⟨24, _⟩ => ⟨S82944x4x8, .f32⟩
  | .hbm, ⟨25, _⟩ => ⟨S82944x32, .f32⟩
  | .hbm, ⟨26, _⟩ => ⟨S82944x4x8, .f32⟩
  | .hbm, ⟨27, _⟩ => ⟨S82944x4x16, .f32⟩
  | .hbm, ⟨28, _⟩ => ⟨S_, .i32⟩
  | .hbm, ⟨29, _⟩ => ⟨S_, .f32⟩
  | .hbm, ⟨30, _⟩ => ⟨S82944x4x128, .f32⟩
  | .hbm, ⟨31, _⟩ => ⟨S82944x2048, .bf16⟩
  | .hbm, ⟨32, _⟩ => ⟨S82944x3072, .bf16⟩
  | .hbm, ⟨33, _⟩ => ⟨S82944x512, .f32⟩
  | _, _ => ⟨S82944x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel3.lean ====
abbrev S82944x2048 : Shape := ⟨2, ![82944, 2048]⟩
abbrev S2048x1024 : Shape := ⟨2, ![2048, 1024]⟩
abbrev S82944x1024 : Shape := ⟨2, ![82944, 1024]⟩
abbrev S512x2048 : Shape := ⟨2, ![512, 2048]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S82944x2048, .bf16⟩
  | .hbm, ⟨1, _⟩ => ⟨S2048x1024, .f32⟩
  | .hbm, ⟨2, _⟩ => ⟨S82944x1024, .f32⟩
  | .hbm, ⟨3, _⟩ => ⟨S2048x1024, .bf16⟩
  | .hbm, ⟨4, _⟩ => ⟨S82944x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S82944x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![162], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S82944x2048 : Shape := ⟨2, ![82944, 2048]⟩
abbrev S2048x1024 : Shape := ⟨2, ![2048, 1024]⟩
abbrev S82944x1024 : Shape := ⟨2, ![82944, 1024]⟩

abbrev nBuf : Space → Nat
  | .hbm => 6
  | .vmem => 0
  | .smem => 0
  | _ => 0

abbrev bufTy : (tb : Table) → Fin (tcTables nBuf tb) → BufTy
  | .hbm, ⟨0, _⟩ => ⟨S82944x2048, .bf16⟩
  | .hbm, ⟨1, _⟩ => ⟨S2048x1024, .f32⟩
  | .hbm, ⟨2, _⟩ => ⟨S82944x1024, .f32⟩
  | .hbm, ⟨3, _⟩ => ⟨S82944x2048, .f32⟩
  | .hbm, ⟨4, _⟩ => ⟨S82944x1024, .f32⟩
  | .hbm, ⟨5, _⟩ => ⟨S82944x1024, .f32⟩
  | _, _ => ⟨S82944x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S82944x1024 : Shape := ⟨2, ![82944, 1024]⟩
abbrev S1024 : Shape := ⟨1, ![1024]⟩
abbrev S1024x3072 : Shape := ⟨2, ![1024, 3072]⟩
abbrev S82944 : Shape := ⟨1, ![82944]⟩
abbrev S_ : Shape := ⟨0, ![]⟩
abbrev S32 : Shape := ⟨1, ![32]⟩
abbrev S82944x1 : Shape := ⟨2, ![82944, 1]⟩
abbrev S1x32 : Shape := ⟨2, ![1, 32]⟩
abbrev S82944x32 : Shape := ⟨2, ![82944, 32]⟩
abbrev S82944x128 : Shape := ⟨2, ![82944, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 58
  | .vmem => 14
  | .smem => 0
  | _ => 0

abbrev bufTy : (tb : Table) → Fin (tcTables nBuf tb) → BufTy
  | .hbm, ⟨0, _⟩ => ⟨S82944x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S82944, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S82944, .i32⟩
  | .hbm, ⟨12, _⟩ => ⟨S82944, .i32⟩
  | .hbm, ⟨13, _⟩ => ⟨S_, .i32⟩
  | .hbm, ⟨14, _⟩ => ⟨S82944, .i32⟩
  | .hbm, ⟨15, _⟩ => ⟨S82944, .i1⟩
  | .hbm, ⟨16, _⟩ => ⟨S_, .i32⟩
  | .hbm, ⟨17, _⟩ => ⟨S82944, .i32⟩
  | .hbm, ⟨18, _⟩ => ⟨S82944, .i1⟩
  | .hbm, ⟨19, _⟩ => ⟨S_, .i32⟩
  | .hbm, ⟨20, _⟩ => ⟨S_, .i1⟩
  | .hbm, ⟨21, _⟩ => ⟨S82944, .i1⟩
  | .hbm, ⟨22, _⟩ => ⟨S82944, .i1⟩
  | .hbm, ⟨23, _⟩ => ⟨S82944, .i1⟩
  | .hbm, ⟨24, _⟩ => ⟨S82944, .i32⟩
  | .hbm, ⟨25, _⟩ => ⟨S82944, .i32⟩
  | .hbm, ⟨26, _⟩ => ⟨S82944, .i32⟩
  | .hbm, ⟨27, _⟩ => ⟨S82944, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S82944x1, .f32⟩
  | .hbm, ⟨45, _⟩ => ⟨S1x32, .f32⟩
  | .hbm, ⟨46, _⟩ => ⟨S82944x32, .f32⟩
  | .hbm, ⟨47, _⟩ => ⟨S82944x32, .f32⟩
  | .hbm, ⟨48, _⟩ => ⟨S82944x32, .f32⟩
  | .hbm, ⟨49, _⟩ => ⟨S82944x32, .f32⟩
  | .hbm, ⟨50, _⟩ => ⟨S82944x32, .f32⟩
  | .hbm, ⟨51, _⟩ => ⟨S82944x128, .f32⟩
  | .hbm, ⟨52, _⟩ => ⟨S82944x32, .f32⟩
  | .hbm, ⟨53, _⟩ => ⟨S82944x128, .f32⟩
  | .hbm, ⟨54, _⟩ => ⟨S1x1024, .f32⟩
  | .hbm, ⟨55, _⟩ => ⟨S82944x1024, .bf16⟩
  | .hbm, ⟨56, _⟩ => ⟨S82944x1024, .bf16⟩
  | .hbm, ⟨57, _⟩ => ⟨S82944x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_v12 : Ref sig .tc := ⟨.hbm, 40, rfl⟩
abbrev main_cst_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26_0 : Ref sig .tc := ⟨.hbm, 55, rfl⟩
abbrev main_v26_1 : Ref sig .tc := ⟨.hbm, 56, rfl⟩
abbrev main_v26_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![162], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S82944x1024 : Shape := ⟨2, ![82944, 1024]⟩
abbrev S1024 : Shape := ⟨1, ![1024]⟩
abbrev S1024x3072 : Shape := ⟨2, ![1024, 3072]⟩
abbrev S82560x1024 : Shape := ⟨2, ![82560, 1024]⟩
abbrev S_ : Shape := ⟨0, ![]⟩
abbrev S82560 : Shape := ⟨1, ![82560]⟩
abbrev S82560x1 : Shape := ⟨2, ![82560, 1]⟩
abbrev S1x1024 : Shape := ⟨2, ![1, 1024]⟩
abbrev S82560x3072 : Shape := ⟨2, ![82560, 3072]⟩
abbrev S40x2064x16x64 : Shape := ⟨4, ![40, 2064, 16, 64]⟩
abbrev S32 : Shape := ⟨1, ![32]⟩
abbrev S2064 : Shape := ⟨1, ![2064]⟩
abbrev S2064x1 : Shape := ⟨2, ![2064, 1]⟩
abbrev S1x32 : Shape := ⟨2, ![1, 32]⟩
abbrev S2064x32 : Shape := ⟨2, ![2064, 32]⟩
abbrev S1x2064x1x32 : Shape := ⟨4, ![1, 2064, 1, 32]⟩
abbrev S40x2064x16x32 : Shape := ⟨4, ![40, 2064, 16, 32]⟩

abbrev nBuf : Space → Nat
  | .hbm => 121
  | .vmem => 0
  | .smem => 0
  | _ => 0

abbrev bufTy : (tb : Table) → Fin (tcTables nBuf tb) → BufTy
  | .hbm, ⟨0, _⟩ => ⟨S82944x1024, .f32⟩
  | .hbm, ⟨1, _⟩ => ⟨S1024, .f32⟩
  | .hbm, ⟨2, _⟩ => ⟨S1024x3072, .f32⟩
  | .hbm, ⟨3, _⟩ => ⟨S82560x1024, .f32⟩
  | .hbm, ⟨4, _⟩ => ⟨S82560x1024, .f32⟩
  | .hbm, ⟨5, _⟩ => ⟨S_, .f32⟩
  | .hbm, ⟨6, _⟩ => ⟨S82560, .f32⟩
  | .hbm, ⟨7, _⟩ => ⟨S82560x1, .f32⟩
  | .hbm, ⟨8, _⟩ => ⟨S_, .f32⟩
  | .hbm, ⟨9, _⟩ => ⟨S82560x1, .f32⟩
  | .hbm, ⟨10, _⟩ => ⟨S82560x1, .f32⟩
  | .hbm, ⟨11, _⟩ => ⟨S_, .f32⟩
  | .hbm, ⟨12, _⟩ => ⟨S82560x1, .f32⟩
  | .hbm, ⟨13, _⟩ => ⟨S82560x1, .f32⟩
  | .hbm, ⟨14, _⟩ => ⟨S82560x1, .f32⟩
  | .hbm, ⟨15, _⟩ => ⟨S82560x1024, .f32⟩
  | .hbm, ⟨16, _⟩ => ⟨S82560x1024, .f32⟩
  | .hbm, ⟨17, _⟩ => ⟨S1x1024, .f32⟩
  | .hbm, ⟨18, _⟩ => ⟨S82560x1024, .f32⟩
  | .hbm, ⟨19, _⟩ => ⟨S82560x1024, .f32⟩
  | .hbm, ⟨20, _⟩ => ⟨S82560x3072, .f32⟩
  | .hbm, ⟨21, _⟩ => ⟨S82560x1024, .f32⟩
  | .hbm, ⟨22, _⟩ => ⟨S40x2064x16x64, .f32⟩
  | .hbm, ⟨23, _⟩ => ⟨S82560x1024, .f32⟩
  | .hbm, ⟨24, _⟩ => ⟨S40x2064x16x64, .f32⟩
  | .hbm, ⟨25, _⟩ => ⟨S82560x1024, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S2064, .f32⟩
  | .hbm, ⟨43, _⟩ => ⟨S2064x1, .f32⟩
  | .hbm, ⟨44, _⟩ => ⟨S1x32, .f32⟩
  | .hbm, ⟨45, _⟩ => ⟨S2064x32, .f32⟩
  | .hbm, ⟨46, _⟩ => ⟨S2064x32, .f32⟩
  | .hbm, ⟨47, _⟩ => ⟨S2064x32, .f32⟩
  | .hbm, ⟨48, _⟩ => ⟨S2064x32, .f32⟩
  | .hbm, ⟨49, _⟩ => ⟨S1x2064x1x32, .f32⟩
  | .hbm, ⟨50, _⟩ => ⟨S2064x32, .f32⟩
  | .hbm, ⟨51, _⟩ => ⟨S1x2064x1x32, .f32⟩
  | .hbm, ⟨52, _⟩ => ⟨S40x2064x16x32, .f32⟩
  | .hbm, ⟨53, _⟩ => ⟨S40x2064x16x32, .f32⟩
  | .hbm, ⟨54, _⟩ => ⟨S40x2064x16x32, .f32⟩
  | .hbm, ⟨55, _⟩ => ⟨S40x2064x16x32, .f32⟩
  | .hbm, ⟨56, _⟩ => ⟨S40x2064x16x32, .f32⟩
  | .hbm, ⟨57, _⟩ => ⟨S40x2064x16x32, .f32⟩
  | .hbm, ⟨58, _⟩ => ⟨S40x2064x16x32, .f32⟩
  | .hbm, ⟨59, _⟩ => ⟨S40x2064x16x32, .f32⟩
  | .hbm, ⟨60, _⟩ => ⟨S40x2064x16x32, .f32⟩
  | .hbm, ⟨61, _⟩ => ⟨S40x2064x16x32, .f32⟩
  | .hbm, ⟨62, _⟩ => ⟨S40x2064x16x32, .f32⟩
  | .hbm, ⟨63, _⟩ => ⟨S40x2064x16x32, .f32⟩
  | .hbm, ⟨64, _⟩ => ⟨S40x2064x16x64, .f32⟩
  | .hbm, ⟨65, _⟩ => ⟨S_, .f32⟩
  | .hbm, ⟨66, _⟩ => ⟨S40x2064x16x64, .f32⟩
  | .hbm, ⟨67, _⟩ => ⟨S40x2064x16x64, .f32⟩
  | .hbm, ⟨68, _⟩ => ⟨S82560x1024, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S2064, .f32⟩
  | .hbm, ⟨86, _⟩ => ⟨S2064x1, .f32⟩
  | .hbm, ⟨87, _⟩ => ⟨S1x32, .f32⟩
  | .hbm, ⟨88, _⟩ => ⟨S2064x32, .f32⟩
  | .hbm, ⟨89, _⟩ => ⟨S2064x32, .f32⟩
  | .hbm, ⟨90, _⟩ => ⟨S2064x32, .f32⟩
  | .hbm, ⟨91, _⟩ => ⟨S2064x32, .f32⟩
  | .hbm, ⟨92, _⟩ => ⟨S1x2064x1x32, .f32⟩
  | .hbm, ⟨93, _⟩ => ⟨S2064x32, .f32⟩
  | .hbm, ⟨94, _⟩ => ⟨S1x2064x1x32, .f32⟩
  | .hbm, ⟨95, _⟩ => ⟨S40x2064x16x32, .f32⟩
  | .hbm, ⟨96, _⟩ => ⟨S40x2064x16x32, .f32⟩
  | .hbm, ⟨97, _⟩ => ⟨S40x2064x16x32, .f32⟩
  | .hbm, ⟨98, _⟩ => ⟨S40x2064x16x32, .f32⟩
  | .hbm, ⟨99, _⟩ => ⟨S40x2064x16x32, .f32⟩
  | .hbm, ⟨100, _⟩ => ⟨S40x2064x16x32, .f32⟩
  | .hbm, ⟨101, _⟩ => ⟨S40x2064x16x32, .f32⟩
  | .hbm, ⟨102, _⟩ => ⟨S40x2064x16x32, .f32⟩
  | .hbm, ⟨103, _⟩ => ⟨S40x2064x16x32, .f32⟩
  | .hbm, ⟨104, _⟩ => ⟨S40x2064x16x32, .f32⟩
  | .hbm, ⟨105, _⟩ => ⟨S40x2064x16x32, .f32⟩
  | .hbm, ⟨106, _⟩ => ⟨S40x2064x16x32, .f32⟩
  | .hbm, ⟨107, _⟩ => ⟨S40x2064x16x64, .f32⟩
  | .hbm, ⟨108, _⟩ => ⟨S82560x1024, .f32⟩
  | .hbm, ⟨109, _⟩ => ⟨S_, .i32⟩
  | .hbm, ⟨110, _⟩ => ⟨S_, .f32⟩
  | .hbm, ⟨111, _⟩ => ⟨S82944x1024, .f32⟩
  | .hbm, ⟨112, _⟩ => ⟨S82944x1024, .bf16⟩
  | .hbm, ⟨113, _⟩ => ⟨S_, .i32⟩
  | .hbm, ⟨114, _⟩ => ⟨S_, .f32⟩
  | .hbm, ⟨115, _⟩ => ⟨S82944x1024, .f32⟩
  | .hbm, ⟨116, _⟩ => ⟨S82944x1024, .bf16⟩
  | .hbm, ⟨117, _⟩ => ⟨S_, .i32⟩
  | .hbm, ⟨118, _⟩ => ⟨S_, .f32⟩
  | .hbm, ⟨119, _⟩ => ⟨S82944x1024, .f32⟩
  | .hbm, ⟨120, _⟩ => ⟨S82944x1024, .bf16⟩
  | _, _ => ⟨S82944x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_c : Ref sig .tc := ⟨.hbm, 109, rfl⟩
abbrev main_call0_v0 : Ref sig .tc := ⟨.hbm, 110, rfl⟩
abbrev main_v92 : Ref sig .tc := ⟨.hbm, 111, rfl⟩
abbrev main_v93 : Ref sig .tc := ⟨.hbm, 112, rfl⟩
abbrev main_c_13 : Ref sig .tc := ⟨.hbm, 113, rfl⟩
abbrev main_call1_v0 : Ref sig .tc := ⟨.hbm, 114, rfl⟩
abbrev main_v94 : Ref sig .tc := ⟨.hbm, 115, rfl⟩
abbrev main_v95 : Ref sig .tc := ⟨.hbm, 116, rfl⟩
abbrev main_c_14 : Ref sig .tc := ⟨.hbm, 117, rfl⟩
abbrev main_call2_v0 : Ref sig .tc := ⟨.hbm, 118, rfl⟩
abbrev main_v96 : Ref sig .tc := ⟨.hbm, 119, rfl⟩
abbrev main_v97 : Ref sig .tc := ⟨.hbm, 120, rfl⟩

abbrev nD : Nat := 1
abbrev τ : Topo := Topo.v7x

variable {F : FTy → Type} [FloatOps F]
-- ==== Kernel5.lean ====
abbrev S82944x1024 : Shape := ⟨2, ![82944, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S82944x1024, .bf16⟩
  | .hbm, ⟨1, _⟩ => ⟨S1024x1024, .f32⟩
  | .hbm, ⟨2, _⟩ => ⟨S82944x1024, .f32⟩
  | .hbm, ⟨3, _⟩ => ⟨S1024x1024, .bf16⟩
  | .hbm, ⟨4, _⟩ => ⟨S82944x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S82944x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![162], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S82944x1024 : Shape := ⟨2, ![82944, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S82944x1024, .bf16⟩
  | .hbm, ⟨1, _⟩ => ⟨S1024x1024, .f32⟩
  | .hbm, ⟨2, _⟩ => ⟨S82944x1024, .f32⟩
  | .hbm, ⟨3, _⟩ => ⟨S82944x1024, .f32⟩
  | .hbm, ⟨4, _⟩ => ⟨S82944x1024, .f32⟩
  | .hbm, ⟨5, _⟩ => ⟨S82944x1024, .f32⟩
  | _, _ => ⟨S82944x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S82944x1024 : Shape := ⟨2, ![82944, 1024]⟩
abbrev S1024 : Shape := ⟨1, ![1024]⟩
abbrev S1x1024 : Shape := ⟨2, ![1, 1024]⟩
abbrev S32x2048x1024 : Shape := ⟨3, ![32, 2048, 1024]⟩
abbrev S2064x1024 : Shape := ⟨2, ![2064, 1024]⟩
abbrev S1x2048x1024 : Shape := ⟨3, ![1, 2048, 1024]⟩
abbrev S128x1024 : Shape := ⟨2, ![128, 1024]⟩
abbrev S128 : Shape := ⟨1, ![128]⟩
abbrev S128x1 : Shape := ⟨2, ![128, 1]⟩
abbrev S1x128x1024 : Shape := ⟨3, ![1, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S82944x1024, .f32⟩
  | .hbm, ⟨1, _⟩ => ⟨S1024, .f32⟩
  | .hbm, ⟨2, _⟩ => ⟨S1x1024, .f32⟩
  | .hbm, ⟨3, _⟩ => ⟨S32x2048x1024, .f32⟩
  | .local _ .vmem, ⟨0, _⟩ => ⟨S2064x1024, .f32⟩
  | .local _ .vmem, ⟨1, _⟩ => ⟨S2064x1024, .f32⟩
  | .local _ .vmem, ⟨2, _⟩ => ⟨S1x1024, .f32⟩
  | .local _ .vmem, ⟨3, _⟩ => ⟨S1x2048x1024, .f32⟩
  | .local _ .vmem, ⟨4, _⟩ => ⟨S1x2048x1024, .f32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v3 : BitVec 32 := Scalar.muli arg4 c128_i32
  let c16_i32_2 : BitVec 32 := 16#32
  let v4 : BitVec 32 := Scalar.addi v3 c16_i32_2
  v4
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v3 : BitVec 32 := Scalar.muli arg4 c128_i32
  let c16_i32_2 : BitVec 32 := 16#32
  let v4 : BitVec 32 := Scalar.addi v3 c16_i32_2
  let v5 : BitVec 32 := v4
  let v6 : Index := Scalar.indexCast v5
  let c0_3 : Index := 0#32
  ![v6.toNat, 0]
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32_6 : BitVec 32 := 128#32
  let v20 : BitVec 32 := Scalar.muli arg4 c128_i32_6
  v20
def k0_off2 (k0_t1 : Fin k0_t1_loop.trips) : Fin 3 → Nat :=
  let c0_7 : Index := 0#32
  let c0_i32 : BitVec 32 := 0#32
  let c1_i32 : BitVec 32 := 1#32
  let arg4 : BitVec 32 := Scf.iv c0_i32 c1_i32 k0_t1
  let c128_i32_6 : BitVec 32 := 128#32
  let v20 : BitVec 32 := Scalar.muli arg4 c128_i32_6
  let v21 : BitVec 32 := v20
  let v22 : Index := Scalar.indexCast v21
  let c0_8 : Index := 0#32
  ![0, v22.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2064x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S82944x1024 : Shape := ⟨2, ![82944, 1024]⟩
abbrev S1024 : Shape := ⟨1, ![1024]⟩
abbrev S66048x1024 : Shape := ⟨2, ![66048, 1024]⟩
abbrev S32x2064x1024 : Shape := ⟨3, ![32, 2064, 1024]⟩
abbrev S_ : Shape := ⟨0, ![]⟩
abbrev S32x2064 : Shape := ⟨2, ![32, 2064]⟩
abbrev S32x2064x1 : Shape := ⟨3, ![32, 2064, 1]⟩
abbrev S1x1x1024 : Shape := ⟨3, ![1, 1, 1024]⟩
abbrev S32x2048x1024 : Shape := ⟨3, ![32, 2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S82944x1024, .f32⟩
  | .hbm, ⟨1, _⟩ => ⟨S1024, .f32⟩
  | .hbm, ⟨2, _⟩ => ⟨S66048x1024, .f32⟩
  | .hbm, ⟨3, _⟩ => ⟨S32x2064x1024, .f32⟩
  | .hbm, ⟨4, _⟩ => ⟨S32x2064x1024, .f32⟩
  | .hbm, ⟨5, _⟩ => ⟨S_, .f32⟩
  | .hbm, ⟨6, _⟩ => ⟨S32x2064, .f32⟩
  | .hbm, ⟨7, _⟩ => ⟨S32x2064x1, .f32⟩
  | .hbm, ⟨8, _⟩ => ⟨S_, .f32⟩
  | .hbm, ⟨9, _⟩ => ⟨S32x2064x1, .f32⟩
  | .hbm, ⟨10, _⟩ => ⟨S32x2064x1, .f32⟩
  | .hbm, ⟨11, _⟩ => ⟨S_, .f32⟩
  | .hbm, ⟨12, _⟩ => ⟨S32x2064x1, .f32⟩
  | .hbm, ⟨13, _⟩ => ⟨S32x2064x1, .f32⟩
  | .hbm, ⟨14, _⟩ => ⟨S32x2064x1, .f32⟩
  | .hbm, ⟨15, _⟩ => ⟨S32x2064x1024, .f32⟩
  | .hbm, ⟨16, _⟩ => ⟨S32x2064x1024, .f32⟩
  | .hbm, ⟨17, _⟩ => ⟨S1x1x1024, .f32⟩
  | .hbm, ⟨18, _⟩ => ⟨S32x2064x1024, .f32⟩
  | .hbm, ⟨19, _⟩ => ⟨S32x2064x1024, .f32⟩
  | .hbm, ⟨20, _⟩ => ⟨S32x2048x1024, .f32⟩
  | _, _ => ⟨S82944x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel7.lean ====
abbrev S82944x1024 : Shape := ⟨2, ![82944, 1024]⟩
abbrev S1024 : Shape := ⟨1, ![1024]⟩
abbrev S1x1024 : Shape := ⟨2, ![1, 1024]⟩
abbrev S8x2048x1024 : Shape := ⟨3, ![8, 2048, 1024]⟩
abbrev S2064x1024 : Shape := ⟨2, ![2064, 1024]⟩
abbrev S1x2048x1024 : Shape := ⟨3, ![1, 2048, 1024]⟩
abbrev S128x1024 : Shape := ⟨2, ![128, 1024]⟩
abbrev S128 : Shape := ⟨1, ![128]⟩
abbrev S128x1 : Shape := ⟨2, ![128, 1]⟩
abbrev S1x128x1024 : Shape := ⟨3, ![1, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S82944x1024, .f32⟩
  | .hbm, ⟨1, _⟩ => ⟨S1024, .f32⟩
  | .hbm, ⟨2, _⟩ => ⟨S1x1024, .f32⟩
  | .hbm, ⟨3, _⟩ => ⟨S8x2048x1024, .f32⟩
  | .local _ .vmem, ⟨0, _⟩ => ⟨S2064x1024, .f32⟩
  | .local _ .vmem, ⟨1, _⟩ => ⟨S2064x1024, .f32⟩
  | .local _ .vmem, ⟨2, _⟩ => ⟨S1x1024, .f32⟩
  | .local _ .vmem, ⟨3, _⟩ => ⟨S1x2048x1024, .f32⟩
  | .local _ .vmem, ⟨4, _⟩ => ⟨S1x2048x1024, .f32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v3 : BitVec 32 := Scalar.muli arg4 c128_i32
  let c16_i32_2 : BitVec 32 := 16#32
  let v4 : BitVec 32 := Scalar.addi v3 c16_i32_2
  v4
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v3 : BitVec 32 := Scalar.muli arg4 c128_i32
  let c16_i32_2 : BitVec 32 := 16#32
  let v4 : BitVec 32 := Scalar.addi v3 c16_i32_2
  let v5 : BitVec 32 := v4
  let v6 : Index := Scalar.indexCast v5
  let c0_3 : Index := 0#32
  ![v6.toNat, 0]
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32_6 : BitVec 32 := 128#32
  let v20 : BitVec 32 := Scalar.muli arg4 c128_i32_6
  v20
def k0_off2 (k0_t1 : Fin k0_t1_loop.trips) : Fin 3 → Nat :=
  let c0_7 : Index := 0#32
  let c0_i32 : BitVec 32 := 0#32
  let c1_i32 : BitVec 32 := 1#32
  let arg4 : BitVec 32 := Scf.iv c0_i32 c1_i32 k0_t1
  let c128_i32_6 : BitVec 32 := 128#32
  let v20 : BitVec 32 := Scalar.muli arg4 c128_i32_6
  let v21 : BitVec 32 := v20
  let v22 : Index := Scalar.indexCast v21
  let c0_8 : Index := 0#32
  ![0, v22.toNat, 0]
def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2064x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S82944x1024 : Shape := ⟨2, ![82944, 1024]⟩
abbrev S1024 : Shape := ⟨1, ![1024]⟩
abbrev S16512x1024 : Shape := ⟨2, ![16512, 1024]⟩
abbrev S8x2064x1024 : Shape := ⟨3, ![8, 2064, 1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S8x2048x1024 : Shape := ⟨3, ![8, 2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S82944x1024, .f32⟩
  | .hbm, ⟨1, _⟩ => ⟨S1024, .f32⟩
  | .hbm, ⟨2, _⟩ => ⟨S16512x1024, .f32⟩
  | .hbm, ⟨3, _⟩ => ⟨S8x2064x1024, .f32⟩
  | .hbm, ⟨4, _⟩ => ⟨S8x2064x1024, .f32⟩
  | .hbm, ⟨5, _⟩ => ⟨S_, .f32⟩
  | .hbm, ⟨6, _⟩ => ⟨S8x2064, .f32⟩
  | .hbm, ⟨7, _⟩ => ⟨S8x2064x1, .f32⟩
  | .hbm, ⟨8, _⟩ => ⟨S_, .f32⟩
  | .hbm, ⟨9, _⟩ => ⟨S8x2064x1, .f32⟩
  | .hbm, ⟨10, _⟩ => ⟨S8x2064x1, .f32⟩
  | .hbm, ⟨11, _⟩ => ⟨S_, .f32⟩
  | .hbm, ⟨12, _⟩ => ⟨S8x2064x1, .f32⟩
  | .hbm, ⟨13, _⟩ => ⟨S8x2064x1, .f32⟩
  | .hbm, ⟨14, _⟩ => ⟨S8x2064x1, .f32⟩
  | .hbm, ⟨15, _⟩ => ⟨S8x2064x1024, .f32⟩
  | .hbm, ⟨16, _⟩ => ⟨S8x2064x1024, .f32⟩
  | .hbm, ⟨17, _⟩ => ⟨S1x1x1024, .f32⟩
  | .hbm, ⟨18, _⟩ => ⟨S8x2064x1024, .f32⟩
  | .hbm, ⟨19, _⟩ => ⟨S8x2064x1024, .f32⟩
  | .hbm, ⟨20, _⟩ => ⟨S8x2048x1024, .f32⟩
  | _, _ => ⟨S82944x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.SoftRow.lean ====
module

public import Idealize.ShloMosaic.Lib.Pointwise

@[expose] public section

noncomputable section

namespace Cert.Att

open Idealize.ShloMosaic

/-- The largest entry of a row, `⊥` for the empty row. -/
def rmax {n : ℕ} (s : Fin n → EReal) : EReal := Finset.univ.fold max ⊥ s

/-- The sum of the exponentials of a row less its maximum. -/
def esum {n : ℕ} (s : Fin n → EReal) : EReal := ∑ u, Ideal.exp (s u - rmax s)

/-- The softmax of a row. -/
def soft {n : ℕ} (s : Fin n → EReal) (t : Fin n) : EReal := Ideal.div (Ideal.exp (s t - rmax s)) (esum s)

/-- The row maximum is the supremum. -/
theorem rmax_eq_sup {n : ℕ} (s : Fin n → EReal) : rmax s = Finset.univ.sup s := rfl

/-- Entries of `⊥` after a row leave its maximum. -/
theorem rmax_pad {n p : ℕ} (s : Fin (n + p) → EReal) (h : ∀ j, s (Fin.natAdd n j) = ⊥) :
    rmax s = rmax fun t => s (Fin.castAdd p t) := by
  rw [rmax_eq_sup, rmax_eq_sup]
  refine le_antisymm (Finset.sup_le fun x _ => ?_) (Finset.sup_le fun x _ => Finset.le_sup (f := s) (Finset.mem_univ _))
  refine Fin.addCases (fun t => ?_) (fun j => ?_) x
  · exact Finset.le_sup (f := fun t => s (Fin.castAdd p t)) (Finset.mem_univ t)
  · rw [h j]; exact bot_le

/-- An entry of `⊥` has exponential zero. -/
theorem exp_bot_sub (M : EReal) : Ideal.exp (⊥ - M) = 0 := by
  rw [EReal.bot_sub]; rfl

/-- Entries of `⊥` after a row leave the sum of exponentials. -/
theorem esum_pad {n p : ℕ} (s : Fin (n + p) → EReal) (h : ∀ j, s (Fin.natAdd n j) = ⊥) :
    esum s = esum fun t => s (Fin.castAdd p t) := by
  unfold esum
  rw [Fin.sum_univ_add, rmax_pad s h, Finset.sum_eq_zero (s := (Finset.univ : Finset (Fin p))), add_zero]
  intro j _
  rw [h j, exp_bot_sub]

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-- A row of real numbers that is not empty has a sum of exponentials other than zero. -/
theorem esum_ne_zero {n : ℕ} (s : Fin n → EReal) (hn : 0 < n) (h : ∀ t, ∃ r : ℝ, s t = r) : esum s ≠ 0 := by
  haveI : Nonempty (Fin n) := ⟨⟨0, hn⟩⟩
  obtain ⟨t, -, ht⟩ := Finset.exists_mem_eq_sup Finset.univ Finset.univ_nonempty s
  have h1 : Ideal.exp (s t - rmax s) = 1 := by
    rw [rmax_eq_sup, ht]
    obtain ⟨r, hr⟩ := h t
    rw [hr, ← EReal.coe_sub, sub_self, Ideal.exp_coe, Real.exp_zero, EReal.coe_one]
  have h2 : Ideal.exp (s t - rmax s) ≤ esum s :=
    Finset.single_le_sum (f := fun u => Ideal.exp (s u - rmax s)) (fun u _ => exp_nonneg _) (Finset.mem_univ t)
  rw [h1] at h2
  exact (lt_of_lt_of_le zero_lt_one h2).ne'

/-- A product with the reciprocal of a number other than zero is the quotient. -/
theorem mul_recip {e s : EReal} (hs : s ≠ 0) : e * Ideal.div 1 s = Ideal.div e s := by
  unfold Ideal.div
  rw [if_neg hs, if_neg hs, one_mul]

/-- The weighted sum over a padded row, with the padding scores `⊥` and the padding values zero, is the weighted sum
    over the row, the weights the difference of two softmaxes. -/
theorem mix_pad {n p : ℕ} (hn : 0 < n) (s0 s1 v : Fin (n + p) → EReal) (lam : EReal)
    (h0 : ∀ j, s0 (Fin.natAdd n j) = ⊥) (h1 : ∀ j, s1 (Fin.natAdd n j) = ⊥) (hv : ∀ j, v (Fin.natAdd n j) = 0)
    (r0 : ∀ t, ∃ r : ℝ, s0 (Fin.castAdd p t) = r) (r1 : ∀ t, ∃ r : ℝ, s1 (Fin.castAdd p t) = r) :
    ∑ j, (Ideal.exp (s0 j - rmax s0) * Ideal.div 1 (esum s0) - Ideal.exp (s1 j - rmax s1) * (Ideal.div 1 (esum s1) * lam)) * v j
      = ∑ t, v (Fin.castAdd p t) * (soft (fun t => s0 (Fin.castAdd p t)) t - lam * soft (fun t => s1 (Fin.castAdd p t)) t) := by
  rw [Fin.sum_univ_add, Finset.sum_eq_zero (s := (Finset.univ : Finset (Fin p))), add_zero]
  · refine Finset.sum_congr rfl fun t _ => ?_
    rw [rmax_pad s0 h0, rmax_pad s1 h1, esum_pad s0 h0, esum_pad s1 h1, ← mul_assoc,
      mul_recip (esum_ne_zero _ hn r0), mul_recip (esum_ne_zero _ hn r1), mul_comm _ lam, mul_comm _ (v _)]
    rfl
  · intro j _
    rw [hv j, mul_zero]

/-- A finite sum of products of real numbers is a real number. -/
theorem real_dot {n : ℕ} (a b : Fin n → EReal) (ha : ∀ d, ∃ r : ℝ, a d = r) (hb : ∀ d, ∃ r : ℝ, b d = r) :
    ∃ r : ℝ, ∑ d, a d * b d = r := by
  choose x hx using ha
  choose y hy using hb
  refine ⟨∑ d, x d * y d, ?_⟩
  simp only [hx, hy, ← EReal.coe_mul]
  induction (Finset.univ : Finset (Fin n)) using Finset.cons_induction with
  | empty => simp
  | cons a S ha ih => rw [Finset.sum_cons, Finset.sum_cons, ih, EReal.coe_add]

/-- The head norm of a row `o`, scaled by `g` and the constant. -/
def headNorm (o g : Fin 128 → EReal) (e : Fin 128) : EReal :=
  o e * Ideal.rsqrt (Ideal.div (∑ x, o x * o x) (Ideal.ofBits .f32 0x43000000#32) + Ideal.ofBits .f32 0x3727C5AC#32) * g e
    * Ideal.ofBits .f32 0x3F24FD5C#32

/-- The mixing scalar from the four learned vectors. -/
def lamOf (a b c d : Fin 64 → EReal) : EReal :=
  Ideal.exp (∑ x, a x * b x) - Ideal.exp (∑ x, c x * d x) + Ideal.ofBits .f32 0x3EB60549#32

/-- One query's output: from its two map halves `q 0`, `q 1`, the keys' halves `k t`, the values `v t`, the mixing scalar
    and the norm's gain. -/
def attRow {n : ℕ} (q : Fin 2 → Fin 64 → EReal) (k : Fin n → Fin 2 → Fin 64 → EReal) (v : Fin n → Fin 128 → EReal)
    (lam : EReal) (g : Fin 128 → EReal) : Fin 128 → EReal :=
  headNorm (fun e => ∑ t, v t e * (soft (fun u => ∑ d, q 0 d * k u 0 d) t - lam * soft (fun u => ∑ d, q 1 d * k u 1 d) t)) g

/-- A row of `[tokens, 1024]` cut into its head `h`'s two map halves. -/
def half (x : (⟨2, ![82944, 1024]⟩ : Shape).Idx → EReal) (b : Fin 40) (h : Fin 8) (s : Fin 2064) (a : Fin 2) (d : Fin 64) : EReal :=
  x (ix2 ⟨b.val * 2064 + s.val, by omega⟩ ⟨h.val * 128 + a.val * 64 + d.val, by omega⟩)

/-- A row of `[tokens, 1024]` at its head `h`'s lanes. -/
def lane (x : (⟨2, ![82944, 1024]⟩ : Shape).Idx → EReal) (b : Fin 40) (h : Fin 8) (s : Fin 2064) (e : Fin 128) : EReal :=
  x (ix2 ⟨b.val * 2064 + s.val, by omega⟩ ⟨h.val * 128 + e.val, by omega⟩)

/-- The layer's attention output at a real row `r` and lane `l`. -/
def attAt (q k v : (⟨2, ![82944, 1024]⟩ : Shape).Idx → EReal) (la lb lc ld : (⟨1, ![64]⟩ : Shape).Idx → EReal)
    (g : (⟨1, ![128]⟩ : Shape).Idx → EReal) (r : Fin 82944) (l : Fin 1024) (hr : r.val < 82560) : EReal :=
  attRow (half q ⟨r.val / 2064, by omega⟩ ⟨l.val / 128, by omega⟩ ⟨r.val % 2064, by omega⟩)
    (half k ⟨r.val / 2064, by omega⟩ ⟨l.val / 128, by omega⟩) (lane v ⟨r.val / 2064, by omega⟩ ⟨l.val / 128, by omega⟩)
    (lamOf (fun d => la (ix1 d)) (fun d => lb (ix1 d)) (fun d => lc (ix1 d)) (fun d => ld (ix1 d)))
    (fun e => g (ix1 e)) ⟨l.val % 128, by omega⟩

/-- The bits of negative infinity denote `⊥`. -/
theorem ofBits_neg_inf : Ideal.ofBits .f32 0xFF800000#32 = ⊥ := by simp [Ideal.ofBits, Ideal.ieee]

end Cert.Att

end
-- ==== Proof.KPay.lean ====
module

public import proofs.«01_k».proof.Proof.Gen.KernelIdeal.Skeleton
public import proofs.«01_k».proof.Proof.SoftRow

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem

/-- The padding test on a small column index. -/
theorem select_slt {α : Type} (n : ℕ) (b : ℕ) (hn : n < 4096) (hb : b < 4096) (x y : α) :
    Scalar.select (IntOp.cmpi CmpIPredicate.slt (BitVec.ofNat 32 n) (BitVec.ofNat 32 b)) x y = if n < b then x else y := by
  unfold Scalar.select IntOp.cmpi
  have h : (BitVec.ofNat 32 n).slt (BitVec.ofNat 32 b) = decide (n < b) := by
    rw [BitVec.slt_eq_decide, BitVec.toInt_ofNat', BitVec.toInt_ofNat']
    rw [Int.bmod_eq_of_le (by omega) (by omega), Int.bmod_eq_of_le (by omega) (by omega)]
    simp
  by_cases hlt : n < b <;> simp [h, hlt]

/-- The opposite test. -/
theorem select_sge {α : Type} (n : ℕ) (b : ℕ) (hn : n < 4096) (hb : b < 4096) (x y : α) :
    Scalar.select (IntOp.cmpi CmpIPredicate.sge (BitVec.ofNat 32 n) (BitVec.ofNat 32 b)) x y = if n < b then y else x := by
  unfold Scalar.select IntOp.cmpi
  have h : (BitVec.ofNat 32 n).slt (BitVec.ofNat 32 b) = decide (n < b) := by
    rw [BitVec.slt_eq_decide, BitVec.toInt_ofNat', BitVec.toInt_ofNat']
    rw [Int.bmod_eq_of_le (by omega) (by omega), Int.bmod_eq_of_le (by omega) (by omega)]
    simp
  by_cases hlt : n < b <;> simp [BitVec.sle_eq_not_slt, h, hlt]

/-- The mixing scalar. -/
theorem pay2_apply (a b c d : Vec Ideal S1x64 .f32) (i j : Fin 1) :
    k0_pay2 a b c d (ix2 i j) = Cert.Att.lamOf (fun x => a (ix2 0 x)) (fun x => b (ix2 0 x)) (fun x => c (ix2 0 x)) (fun x => d (ix2 0 x)) := by
  pointwise [k0_pay2]
  rfl

/-- The padding mask: zero at a real key, `⊥` past them. -/
theorem pay3_apply (i : Fin 1) (j : Fin 2176) : k0_pay3 (F := Ideal) (ix2 i j) = if j.val < 2064 then 0 else ⊥ := by
  pointwise [k0_pay3]
  rw [select_slt _ 2064 (by omega) (by omega)]
  rfl

/-- The first map's keys: the lanes under 64. -/
theorem pay7_apply (x : Vec Ideal S2064x128 .bf16) (t : Fin 2064) (d : Fin 128) :
    k0_pay7 x (ix2 t d) = if d.val < 64 then x (ix2 t d) else 0 := by
  pointwise [k0_pay7]
  rw [select_slt _ 64 (by omega) (by omega)]

/-- The second map's keys: the lanes from 64. -/
theorem pay8_apply (x : Vec Ideal S2064x128 .bf16) (t : Fin 2064) (d : Fin 128) :
    k0_pay8 x (ix2 t d) = if d.val < 64 then 0 else x (ix2 t d) := by
  pointwise [k0_pay8]
  rw [select_sge _ 64 (by omega) (by omega)]

/-- The values. -/
theorem pay9_apply (x : Vec Ideal S2064x128 .bf16) (t : Fin 2064) (d : Fin 128) : k0_pay9 x (ix2 t d) = x (ix2 t d) := by
  pointwise [k0_pay9]

/-- The padding rows are zero. -/
theorem pay10_apply (t : Fin 112) (d : Fin 128) : k0_pay10 (F := Ideal) (ix2 t d) = 0 := by pointwise [k0_pay10]

/-- The padding rows are zero. -/
theorem pay11_apply (t : Fin 112) (d : Fin 128) : k0_pay11 (F := Ideal) (ix2 t d) = 0 := by pointwise [k0_pay11]

/-- The padding rows are zero. -/
theorem pay1_apply (t : Fin 112) (d : Fin 128) : k0_pay1 (k0_pay12 (F := Ideal)) (ix2 t d) = 0 := by pointwise [k0_pay1, k0_pay12]

/-- The head norm of the block's rows. -/
theorem pay4_apply (g : Vec Ideal S1x128 .f32) (o : FVec Ideal S688x128 .f32) (oo : FVec Ideal S688x128 .f32)
    (ho : ∀ r e, oo (ix2 r e) = o (ix2 r e) * o (ix2 r e)) (r : Fin 688) (e : Fin 128) :
    k0_pay4 g o oo (ix2 r e) = Cert.Att.headNorm (fun x => o (ix2 r x)) (fun x => g (ix2 0 x)) e := by
  pointwise [k0_pay4]
  simp only [ho]
  rfl

/-- The squares. -/
theorem pay6_apply (l : FVec Ideal S1x1 .f32) (b : FVec Ideal S1x2176 .f32) (q : Vec Ideal S688x128 .bf16) (k0 k1 v : Vec Ideal S2176x128 .bf16)
    (r : Fin 688) (e : Fin 128) : k0_pay6 l b q k0 k1 v (ix2 r e) = k0_pay5 l b q k0 k1 v (ix2 r e) * k0_pay5 l b q k0 k1 v (ix2 r e) := by
  pointwise [k0_pay6]

/-- The padded scores of a row. -/
def padScore (q : Vec Ideal S688x128 .bf16) (k : Vec Ideal S2176x128 .bf16) (r : Fin 688) (j : Fin (2064 + 112)) : EReal :=
  ∑ d, q (ix2 r d) * k (ix2 j d) + k0_pay3 (F := Ideal) (ix2 0 j)

/-- The weighted values over the padded keys. -/
theorem pay5_apply (l : FVec Ideal S1x1 .f32) (q : Vec Ideal S688x128 .bf16) (k0 k1 v : Vec Ideal S2176x128 .bf16)
    (r : Fin 688) (e : Fin 128) : k0_pay5 l k0_pay3 q k0 k1 v (ix2 r e)
      = ∑ j, (Ideal.exp (padScore q k0 r j - Cert.Att.rmax (padScore q k0 r)) * Ideal.div 1 (Cert.Att.esum (padScore q k0 r))
          - Ideal.exp (padScore q k1 r j - Cert.Att.rmax (padScore q k1 r)) * (Ideal.div 1 (Cert.Att.esum (padScore q k1 r)) * l (ix2 0 0)))
          * v (ix2 j e) := by
  pointwise [k0_pay5]
  rw [Cert.Att.ofBits_neg_inf]
  rfl

/-- A block row's map half. -/
def bhalf {n : ℕ} (x : (⟨2, ![n, 128]⟩ : Shape).Idx → EReal) (t : Fin n) (a : Fin 2) (d : Fin 64) : EReal :=
  x (ix2 t ⟨a.val * 64 + d.val, by omega⟩)

/-- A product over 128 lanes with the lanes from 64 zero is the product over the first half. -/
theorem dot_low (q k : Fin (64 + 64) → EReal) :
    ∑ d, q d * (if d.val < 64 then k d else 0) = ∑ d : Fin 64, q ⟨0 * 64 + d.val, by omega⟩ * k ⟨0 * 64 + d.val, by omega⟩ := by
  rw [Fin.sum_univ_add, Finset.sum_eq_zero (s := (Finset.univ : Finset (Fin 64)))
    (f := fun i => q (Fin.natAdd 64 i) * (if (Fin.natAdd 64 i).val < 64 then k (Fin.natAdd 64 i) else 0)), add_zero]
  · refine Finset.sum_congr rfl fun d _ => ?_
    rw [if_pos (show (Fin.castAdd 64 d).val < 64 from d.isLt)]
    have e : (Fin.castAdd 64 d : Fin (64 + 64)) = ⟨0 * 64 + d.val, by omega⟩ := Fin.ext (by simp)
    rw [e]
  · intro d _
    rw [if_neg (by simp), mul_zero]

/-- A product over 128 lanes with the lanes under 64 zero is the product over the second half. -/
theorem dot_high (q k : Fin (64 + 64) → EReal) :
    ∑ d, q d * (if d.val < 64 then 0 else k d) = ∑ d : Fin 64, q ⟨1 * 64 + d.val, by omega⟩ * k ⟨1 * 64 + d.val, by omega⟩ := by
  rw [Fin.sum_univ_add, Finset.sum_eq_zero (s := (Finset.univ : Finset (Fin 64)))
    (f := fun i => q (Fin.castAdd 64 i) * (if (Fin.castAdd 64 i).val < 64 then 0 else k (Fin.castAdd 64 i))), zero_add]
  · refine Finset.sum_congr rfl fun d _ => ?_
    rw [if_neg (by simp)]
    have e : (Fin.natAdd 64 d : Fin (64 + 64)) = ⟨1 * 64 + d.val, by omega⟩ := Fin.ext (by simp [Nat.add_comm])
    rw [e]
  · intro d _
    rw [if_pos (show (Fin.castAdd 64 d).val < 64 from d.isLt), mul_zero]

/-- The block's two padded key arrays and its padded values: the real rows masked to one map's lanes, zero past them. -/
structure Padded (x1 x2 : Vec Ideal S2064x128 .bf16) (k0 k1 v : Vec Ideal S2176x128 .bf16) : Prop where
  k0_real : ∀ (t : Fin 2064) (d : Fin 128), k0 (ix2 (Fin.castAdd 112 t : Fin (2064 + 112)) d) = if d.val < 64 then x1 (ix2 t d) else 0
  k1_real : ∀ (t : Fin 2064) (d : Fin 128), k1 (ix2 (Fin.castAdd 112 t : Fin (2064 + 112)) d) = if d.val < 64 then 0 else x1 (ix2 t d)
  v_real : ∀ (t : Fin 2064) (d : Fin 128), v (ix2 (Fin.castAdd 112 t : Fin (2064 + 112)) d) = x2 (ix2 t d)
  k0_pad : ∀ (j : Fin 112) (d : Fin 128), k0 (ix2 (Fin.natAdd 2064 j : Fin (2064 + 112)) d) = 0
  k1_pad : ∀ (j : Fin 112) (d : Fin 128), k1 (ix2 (Fin.natAdd 2064 j : Fin (2064 + 112)) d) = 0
  v_pad : ∀ (j : Fin 112) (d : Fin 128), v (ix2 (Fin.natAdd 2064 j : Fin (2064 + 112)) d) = 0

/-- A padded score past the keys is `⊥`. -/
theorem padScore_pad (q : Vec Ideal S688x128 .bf16) (k : Vec Ideal S2176x128 .bf16) (r : Fin 688) (j : Fin 112)
    (h : ∀ d : Fin 128, k (ix2 (Fin.natAdd 2064 j : Fin (2064 + 112)) d) = 0) : padScore q k r (Fin.natAdd 2064 j) = ⊥ := by
  unfold padScore
  rw [pay3_apply, if_neg (by simp), Finset.sum_eq_zero, zero_add]
  intro d _
  rw [h d, mul_zero]

/-- A padded score of a real key, first map. -/
theorem padScore_low {x1 x2 : Vec Ideal S2064x128 .bf16} {k0 k1 v : Vec Ideal S2176x128 .bf16} (H : Padded x1 x2 k0 k1 v)
    (q : Vec Ideal S688x128 .bf16) (r : Fin 688) (t : Fin 2064) :
    padScore q k0 r (Fin.castAdd 112 t) = ∑ d, bhalf q r 0 d * bhalf x1 t 0 d := by
  unfold padScore
  rw [pay3_apply, if_pos (show (Fin.castAdd 112 t).val < 2064 from t.isLt), add_zero]
  simp only [H.k0_real]
  exact dot_low (fun d => q (ix2 r d)) (fun d => x1 (ix2 t d))

/-- A padded score of a real key, second map. -/
theorem padScore_high {x1 x2 : Vec Ideal S2064x128 .bf16} {k0 k1 v : Vec Ideal S2176x128 .bf16} (H : Padded x1 x2 k0 k1 v)
    (q : Vec Ideal S688x128 .bf16) (r : Fin 688) (t : Fin 2064) :
    padScore q k1 r (Fin.castAdd 112 t) = ∑ d, bhalf q r 1 d * bhalf x1 t 1 d := by
  unfold padScore
  rw [pay3_apply, if_pos (show (Fin.castAdd 112 t).val < 2064 from t.isLt), add_zero]
  simp only [H.k1_real]
  exact dot_high (fun d => q (ix2 r d)) (fun d => x1 (ix2 t d))

/-- An array of real numbers. -/
def Real2 {n : ℕ} (x : (⟨2, ![n, 128]⟩ : Shape).Idx → EReal) : Prop := ∀ t d, ∃ r : ℝ, x (ix2 t d) = r

/-- What a trip stores, read at a row and lane: the attention row, when the queries and keys are real numbers. -/
theorem trip_apply {x1 x2 : Vec Ideal S2064x128 .bf16} {k0 k1 v : Vec Ideal S2176x128 .bf16} (H : Padded x1 x2 k0 k1 v)
    (q : Vec Ideal S688x128 .bf16) (hq : Real2 q) (hk : Real2 x1) (a b c d : Vec Ideal S1x64 .f32) (g : Vec Ideal S1x128 .f32)
    (r : Fin 688) (e : Fin 128) :
    k0_pay4 g (k0_pay5 (k0_pay2 a b c d) k0_pay3 q k0 k1 v) (k0_pay6 (k0_pay2 a b c d) k0_pay3 q k0 k1 v) (ix2 r e)
      = Cert.Att.attRow (bhalf q r) (bhalf x1) (fun t e => x2 (ix2 t e))
          (Cert.Att.lamOf (fun x => a (ix2 0 x)) (fun x => b (ix2 0 x)) (fun x => c (ix2 0 x)) (fun x => d (ix2 0 x)))
          (fun x => g (ix2 0 x)) e := by
  rw [pay4_apply _ _ _ (fun r e => pay6_apply _ _ _ _ _ _ r e)]
  unfold Cert.Att.attRow
  congr 1
  funext e
  rw [pay5_apply, pay2_apply]
  have hl : ∀ t : Fin 2064, padScore q k0 r (Fin.castAdd 112 t) = ∑ d, bhalf q r 0 d * bhalf x1 t 0 d := padScore_low H q r
  have hh : ∀ t : Fin 2064, padScore q k1 r (Fin.castAdd 112 t) = ∑ d, bhalf q r 1 d * bhalf x1 t 1 d := padScore_high H q r
  refine (Cert.Att.mix_pad (n := 2064) (p := 112) (by norm_num) (padScore q k0 r) (padScore q k1 r) (fun j => v (ix2 j e)) _
    (fun j => padScore_pad q k0 r j (H.k0_pad j)) (fun j => padScore_pad q k1 r j (H.k1_pad j)) (fun j => H.v_pad j e) ?_ ?_).trans ?_
  · intro t; rw [hl]; exact Cert.Att.real_dot _ _ (fun d => hq r _) (fun d => hk t _)
  · intro t; rw [hh]; exact Cert.Att.real_dot _ _ (fun d => hq r _) (fun d => hk t _)
  · simp only [hl, hh, H.v_real]

end Cert.KernelIdeal.Att

end
-- ==== Proof.KBlock.lean ====
module

public import proofs.«01_k».proof.Proof.Gen.KernelIdeal.Value
public import proofs.«01_k».proof.Proof.KPay

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem

/-- A trip's one store: its rows, and what it stores there. -/
theorem trip_eq (𝒱 : Variants) (c : Dev nD) (bd : Option 𝒱.V) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S2064x128 .bf16) (harg10 : arg10.IsWhole) (arg11 : Memref sig .tc .vmem S2176x128 .bf16) (harg11 : arg11.IsWhole) (arg12 : Memref sig .tc .vmem S2176x128 .bf16) (harg12 : arg12.IsWhole) (arg13 : Memref sig .tc .vmem S2176x128 .bf16) (harg13 : arg13.IsWhole)
    (v32 v34 v40 v42 : Vec Ideal S1x64 .f32) (v57 : Vec Ideal S1x128 .f32) (X2 : BufTy.Contents (Elt Ideal) arg2.view.ty) (X11 : BufTy.Contents (Elt Ideal) arg11.view.ty) (X12 : BufTy.Contents (Elt Ideal) arg12.view.ty) (X13 : BufTy.Contents (Elt Ideal) arg13.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v32 v34 v40 v42 v57 X2 X11 X12 X13 k
      = [⟨Rect.unit (s := S2064x128) (k0_off1 k) S688x128.size (k0_off1_inb k),
          k0_pay4 v57
            (k0_pay5 (k0_pay2 v32 v34 v40 v42) k0_pay3 (View.ld (arg2.view.read (Elt Ideal) X2) (Rect.unit (s := S2064x128) (k0_off1 k) S688x128.size (k0_off1_inb k)))
              (arg11.view.read (Elt Ideal) X11) (arg12.view.read (Elt Ideal) X12) (arg13.view.read (Elt Ideal) X13))
            (k0_pay6 (k0_pay2 v32 v34 v40 v42) k0_pay3 (View.ld (arg2.view.read (Elt Ideal) X2) (Rect.unit (s := S2064x128) (k0_off1 k) S688x128.size (k0_off1_inb k)))
              (arg11.view.read (Elt Ideal) X11) (arg12.view.read (Elt Ideal) X12) (arg13.view.read (Elt Ideal) X13))⟩] := by
  unfold tripL_k0_t1 trip_k0_t1
  dsimp only
  have hz : (![0, 0] : Fin 2 → Nat) = fun _ => 0 := funext fun a => by fin_cases a <;> rfl
  have e11 := View.ld_unit_zero (S := S2176x128) (Val := Elt Ideal) (e := .bf16) hz inb_S2176x128_S2176x128_0_0
  have r11 : arg11.view.read (Elt Ideal) X11 = View.readAt (Elt Ideal) arg11.view (Rect.unit (s := S2176x128) ![0, 0] S2176x128.size inb_S2176x128_S2176x128_0_0).toLoadRect X11 := ((View.readAt_eq_ld _ _ _).trans (e11 _)).symm
  have r12 : arg12.view.read (Elt Ideal) X12 = View.readAt (Elt Ideal) arg12.view (Rect.unit (s := S2176x128) ![0, 0] S2176x128.size inb_S2176x128_S2176x128_0_0).toLoadRect X12 := ((View.readAt_eq_ld _ _ _).trans (e11 _)).symm
  have r13 : arg13.view.read (Elt Ideal) X13 = View.readAt (Elt Ideal) arg13.view (Rect.unit (s := S2176x128) ![0, 0] S2176x128.size inb_S2176x128_S2176x128_0_0).toLoadRect X13 := ((View.readAt_eq_ld _ _ _).trans (e11 _)).symm
  rw [r11, r12, r13]
  rfl

/-- Trip `k` works on the rows from `688·k`. -/
theorem off1_eq : ∀ k : Fin k0_t1_loop.trips, k0_off1 k = ![688 * k.val, 0] := by decide +kernel

/-- The block of attention rows the eight inputs give, read at a row and lane. -/
def blockRow (x0 x1 x2 : Vec Ideal S2064x128 .bf16) (a b c d : Vec Ideal S1x64 .f32) (g : Vec Ideal S1x128 .f32) (r : Fin 2064) (e : Fin 128) : EReal :=
  Cert.Att.attRow (bhalf x0 r) (bhalf x1) (fun t e => x2 (ix2 t e))
    (Cert.Att.lamOf (fun x => a (ix2 0 x)) (fun x => b (ix2 0 x)) (fun x => c (ix2 0 x)) (fun x => d (ix2 0 x))) (fun x => g (ix2 0 x)) e

/-- A scratch buffer filled by a store of its first 2064 rows and a store of its last 112 rows. -/
theorem canon_two (w1 : Vec Ideal S112x128 .bf16) (w0 : Vec Ideal S2064x128 .bf16) :
    (∀ (t : Fin 2064) (d : Fin 128), View.canon (Val := Elt Ideal) [⟨Rect.unit (s := S2176x128) ![2064, 0] S112x128.size inb_S2176x128_S112x128_2064_0, w1⟩,
        ⟨Rect.unit (s := S2176x128) ![0, 0] S2064x128.size inb_S2176x128_S2064x128_0_0, w0⟩] (ix2 (Fin.castAdd 112 t : Fin (2064 + 112)) d) = w0 (ix2 t d))
    ∧ ∀ (t : Fin 112) (d : Fin 128), View.canon (Val := Elt Ideal) [⟨Rect.unit (s := S2176x128) ![2064, 0] S112x128.size inb_S2176x128_S112x128_2064_0, w1⟩,
        ⟨Rect.unit (s := S2176x128) ![0, 0] S2064x128.size inb_S2176x128_S2064x128_0_0, w0⟩] (ix2 (Fin.natAdd 2064 t : Fin (2064 + 112)) d) = w1 (ix2 t d) := by
  constructor
  · intro t d
    rw [View.canon_cons_of_not_mem]
    · have e : (ix2 (Fin.castAdd 112 t : Fin (2064 + 112)) d : S2176x128.Idx) = (Rect.unit (s := S2176x128) ![0, 0] S2064x128.size inb_S2176x128_S2064x128_0_0).emb (ix2 t d : S2064x128.Idx) := by
        funext a
        fin_cases a
        · exact Fin.ext (by simp [Rect.emb_apply, ix2])
        · exact Fin.ext (by simp [Rect.emb_apply, ix2])
      rw [e]
      exact View.canon_cons_emb _ _ _ _
    · rw [Rect.mem_set_unit]
      intro h
      have h0 := (h 0).1
      have ht := t.isLt
      simp [ix2] at h0
      omega
  · intro t d
    have e : (ix2 (Fin.natAdd 2064 t : Fin (2064 + 112)) d : S2176x128.Idx) = (Rect.unit (s := S2176x128) ![2064, 0] S112x128.size inb_S2176x128_S112x128_2064_0).emb (ix2 t d : S112x128.Idx) := by
      funext a
      fin_cases a
      · exact Fin.ext (by simp [Rect.emb_apply, ix2])
      · exact Fin.ext (by simp [Rect.emb_apply, ix2])
    rw [e]
    exact View.canon_cons_emb _ _ _ _

/-- A trip stores the block's attention rows at its rows. -/
theorem trip_block {x1 x2 : Vec Ideal S2064x128 .bf16} {k0 k1 v : Vec Ideal S2176x128 .bf16} (H : Padded x1 x2 k0 k1 v)
    (x0 : Vec Ideal S2064x128 .bf16) (hq : Real2 x0) (hk : Real2 x1) (a b c d : Vec Ideal S1x64 .f32) (g : Vec Ideal S1x128 .f32) (n : Fin k0_t1_loop.trips) (x : S688x128.Idx) :
    k0_pay4 g (k0_pay5 (k0_pay2 a b c d) k0_pay3 (View.ld x0 (Rect.unit (s := S2064x128) (k0_off1 n) S688x128.size (k0_off1_inb n))) k0 k1 v)
        (k0_pay6 (k0_pay2 a b c d) k0_pay3 (View.ld x0 (Rect.unit (s := S2064x128) (k0_off1 n) S688x128.size (k0_off1_inb n))) k0 k1 v) x
      = blockRow x0 x1 x2 a b c d g ((Rect.unit (s := S2064x128) (k0_off1 n) S688x128.size (k0_off1_inb n)).emb x 0)
          ((Rect.unit (s := S2064x128) (k0_off1 n) S688x128.size (k0_off1_inb n)).emb x 1) := by
  obtain ⟨r, e, rfl⟩ : ∃ (r : Fin 688) (e : Fin 128), x = ix2 r e := ⟨x 0, x 1, funext fun a => by fin_cases a <;> rfl⟩
  have hld : ∀ r e, View.ld x0 (Rect.unit (s := S2064x128) (k0_off1 n) S688x128.size (k0_off1_inb n)) (ix2 r e : S688x128.Idx)
      = x0 ((Rect.unit (s := S2064x128) (k0_off1 n) S688x128.size (k0_off1_inb n)).emb (ix2 r e : S688x128.Idx)) := fun _ _ => rfl
  have hemb : ∀ (r : Fin 688) (e : Fin 128), (Rect.unit (s := S2064x128) (k0_off1 n) S688x128.size (k0_off1_inb n)).emb (ix2 r e : S688x128.Idx)
      = ix2 ((Rect.unit (s := S2064x128) (k0_off1 n) S688x128.size (k0_off1_inb n)).emb (ix2 r 0 : S688x128.Idx) 0) e := by
    intro r e
    funext w
    fin_cases w
    · exact Fin.ext (by simp [Rect.emb_apply, ix2])
    · exact Fin.ext (by simp [Rect.emb_apply, ix2, off1_eq])
  rw [trip_apply H _ (fun t d => by rw [hld, hemb]; exact hq _ _) hk a b c d g r e]
  unfold blockRow
  have hb : bhalf (View.ld x0 (Rect.unit (s := S2064x128) (k0_off1 n) S688x128.size (k0_off1_inb n))) r
      = bhalf x0 ((Rect.unit (s := S2064x128) (k0_off1 n) S688x128.size (k0_off1_inb n)).emb (ix2 r e : S688x128.Idx) 0) := by
    funext a d
    unfold bhalf
    rw [hld, hemb r, hemb r e]
    rfl
  rw [hb, hemb r e]
  rfl

/-- Every piece the trips store holds the block's attention rows. -/
theorem pieces_eq (𝒱 : Variants) (c : Dev nD) (bd : Option 𝒱.V) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S2064x128 .bf16) (harg10 : arg10.IsWhole) (arg11 : Memref sig .tc .vmem S2176x128 .bf16) (harg11 : arg11.IsWhole) (arg12 : Memref sig .tc .vmem S2176x128 .bf16) (harg12 : arg12.IsWhole) (arg13 : Memref sig .tc .vmem S2176x128 .bf16) (harg13 : arg13.IsWhole)
    (v32 v34 v40 v42 : Vec Ideal S1x64 .f32) (v57 : Vec Ideal S1x128 .f32) (X2 : BufTy.Contents (Elt Ideal) arg2.view.ty) (X11 : BufTy.Contents (Elt Ideal) arg11.view.ty) (X12 : BufTy.Contents (Elt Ideal) arg12.view.ty) (X13 : BufTy.Contents (Elt Ideal) arg13.view.ty)
    {x1 x2 : Vec Ideal S2064x128 .bf16} (H : Padded x1 x2 (arg11.view.read (Elt Ideal) X11) (arg12.view.read (Elt Ideal) X12) (arg13.view.read (Elt Ideal) X13))
    (hq : Real2 (arg2.view.read (Elt Ideal) X2)) (hk : Real2 x1) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 v32 v34 v40 v42 v57 X2 X11 X12 X13 n, ∀ x : p.1.shape.Idx,
      p.2 x = blockRow (arg2.view.read (Elt Ideal) X2) x1 x2 v32 v34 v40 v42 v57 (p.1.emb x 0) (p.1.emb x 1) := by
  induction n with
  | zero => intro p hp; simp [pb_k0_t1] at hp
  | succ n ih =>
    intro p hp
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 v32 v34 v40 v42 v57 X2 X11 X12 X13 ⟨n, hn⟩
    rw [show n + 1 = (⟨n, hn⟩ : Fin k0_t1_loop.trips).val + 1 from rfl, hs, trip_eq, List.mem_append, List.mem_singleton] at hp
    rcases hp with hp | hp
    · subst hp
      exact trip_block H _ hq hk v32 v34 v40 v42 v57 ⟨n, hn⟩
    · exact ih (Nat.le_of_succ_le hn) p hp

/-- What a grid point leaves in its output block: the block's attention rows, when its queries and keys are real numbers. -/
theorem out_eq (c : Dev nD) (i : grid0.Coords) (arg2 : Memref sig .tc .vmem S2064x128 .bf16) (harg2 : arg2.IsWhole) (arg3 : Memref sig .tc .vmem S2064x128 .bf16) (harg3 : arg3.IsWhole) (arg4 : Memref sig .tc .vmem S2064x128 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S2064x128 .bf16) (harg10 : arg10.IsWhole) (arg11 : Memref sig .tc .vmem S2176x128 .bf16) (harg11 : arg11.IsWhole) (arg12 : Memref sig .tc .vmem S2176x128 .bf16) (harg12 : arg12.IsWhole) (arg13 : Memref sig .tc .vmem S2176x128 .bf16) (harg13 : arg13.IsWhole)
    (x0 x1 x2 : Vec Ideal S2064x128 .bf16) (x3 x4 x5 x6 : Vec Ideal S1x64 .f32) (x7 : Vec Ideal S1x128 .f32) (hq : Real2 x0) (hk : Real2 x1) (r : Fin 2064) (e : Fin 128) :
    out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r e) = blockRow x0 x1 x2 x3 x4 x5 x6 x7 r e := by
  have hz : (![0, 0] : Fin 2 → Nat) = fun _ => 0 := funext fun a => by fin_cases a <;> rfl
  have e64 := View.ld_unit_zero (S := S1x64) (Val := Elt Ideal) (e := .f32) hz inb_S1x64_S1x64_0_0
  have e128 := View.ld_unit_zero (S := S1x128) (Val := Elt Ideal) (e := .f32) hz inb_S1x128_S1x128_0_0
  have eb := View.ld_unit_zero (S := S2064x128) (Val := Elt Ideal) (e := .bf16) hz inb_S2064x128_S2064x128_0_0
  have r5 : View.readAt (Elt Ideal) arg5.view (Rect.unit (s := S1x64) ![0, 0] S1x64.size inb_S1x64_S1x64_0_0).toLoadRect (harg5.unread x3) = x3 := by rw [View.readAt_eq_ld, e64, harg5.read_unread]
  have r6 : View.readAt (Elt Ideal) arg6.view (Rect.unit (s := S1x64) ![0, 0] S1x64.size inb_S1x64_S1x64_0_0).toLoadRect (harg6.unread x4) = x4 := by rw [View.readAt_eq_ld, e64, harg6.read_unread]
  have r7 : View.readAt (Elt Ideal) arg7.view (Rect.unit (s := S1x64) ![0, 0] S1x64.size inb_S1x64_S1x64_0_0).toLoadRect (harg7.unread x5) = x5 := by rw [View.readAt_eq_ld, e64, harg7.read_unread]
  have r8 : View.readAt (Elt Ideal) arg8.view (Rect.unit (s := S1x64) ![0, 0] S1x64.size inb_S1x64_S1x64_0_0).toLoadRect (harg8.unread x6) = x6 := by rw [View.readAt_eq_ld, e64, harg8.read_unread]
  have r9 : View.readAt (Elt Ideal) arg9.view (Rect.unit (s := S1x128) ![0, 0] S1x128.size inb_S1x128_S1x128_0_0).toLoadRect (harg9.unread x7) = x7 := by rw [View.readAt_eq_ld, e128, harg9.read_unread]
  have r3 : View.readAt (Elt Ideal) arg3.view (Rect.unit (s := S2064x128) ![0, 0] S2064x128.size inb_S2064x128_S2064x128_0_0).toLoadRect (harg3.unread x1) = x1 := by rw [View.readAt_eq_ld, eb, harg3.read_unread]
  have r4 : View.readAt (Elt Ideal) arg4.view (Rect.unit (s := S2064x128) ![0, 0] S2064x128.size inb_S2064x128_S2064x128_0_0).toLoadRect (harg4.unread x2) = x2 := by rw [View.readAt_eq_ld, eb, harg4.read_unread]
  have H : Padded x1 x2 (arg11.view.read (Elt Ideal) (arg11.view.writes (Elt Ideal) arg11.view.junk (kernelRun0_A.sl.HS0_2 c arg3 harg3 x1)))
      (arg12.view.read (Elt Ideal) (arg12.view.writes (Elt Ideal) arg12.view.junk (kernelRun0_A.sl.HS1_2 c arg3 harg3 x1)))
      (arg13.view.read (Elt Ideal) (arg13.view.writes (Elt Ideal) arg13.view.junk (kernelRun0_A.sl.HS2_2 c arg4 harg4 x2))) := by
    rw [View.read_writes_junk_eq_canon, View.read_writes_junk_eq_canon, View.read_writes_junk_eq_canon]
    unfold kernelRun0_A.sl.HS0_2 kernelRun0_A.sl.HS1_2 kernelRun0_A.sl.HS2_2
    rw [r3, r4]
    exact ⟨fun t d => ((canon_two _ _).1 t d).trans (pay7_apply _ _ _), fun t d => ((canon_two _ _).1 t d).trans (pay8_apply _ _ _),
      fun t d => ((canon_two _ _).1 t d).trans (pay9_apply _ _ _), fun t d => ((canon_two _ _).2 t d).trans (pay10_apply _ _),
      fun t d => ((canon_two _ _).2 t d).trans (pay11_apply _ _), fun t d => ((canon_two _ _).2 t d).trans (pay1_apply _ _)⟩
  have hc := cover0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r e)
  have hp := pieces_eq Variants.none c none i arg2 harg2 arg3 harg3 arg4 harg4 arg5 harg5 arg6 harg6 arg7 harg7 arg8 harg8 arg9 harg9 arg10 harg10 arg11 harg11 arg12 harg12 arg13 harg13 x3 x4 x5 x6 x7 (harg2.unread x0) _ _ _ H (by rw [harg2.read_unread]; exact hq) hk _ (le_refl k0_t1_loop.trips)
  rw [harg2.read_unread] at hp
  unfold out0_A_8
  rw [View.read_writes_junk_eq_canon]
  refine View.canon_apply_of_pieces (fun y : S2064x128.Idx => blockRow x0 x1 x2 x3 x4 x5 x6 x7 (y 0) (y 1)) _ ?_ (ix2 r e) hc
  unfold kernelRun0_A
  dsimp only
  erw [r5, r6, r7, r8, r9]
  exact hp

end Cert.KernelIdeal.Att

end
-- ==== Proof.KRun.lean ====
module

public import proofs.«01_k».proof.Proof.KBlock

@[expose] public section

set_option maxRecDepth 16384

noncomputable section

namespace Cert.KernelIdeal.Att

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ)

/-- Window 0's block at a grid point: sequence `t / 8`, head `t % 8`. -/
theorem index_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)

/-- Window 1's block at a grid point: sequence `t / 8`, head `t % 8`. -/
theorem index_1 : ∀ t : Fin cfg0.N, win0_1.index t (0 : Fin 2) = t.val / 8 ∧ win0_1.index t (1 : Fin 2) = t.val % 8 :=
  (by decide +kernel : ∀ t : Fin grid0.N, win0_1.index t (0 : Fin 2) = t.val / 8 ∧ win0_1.index t (1 : Fin 2) = t.val % 8)

/-- Window 2's block at a grid point: sequence `t / 8`, head `t % 8`. -/
theorem index_2 : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)

/-- Window 8's block at a grid point: sequence `t / 8`, head `t % 8`. -/
theorem index_8 : ∀ t : Fin cfg0.N, win0_8.index t (0 : Fin 2) = t.val / 8 ∧ win0_8.index t (1 : Fin 2) = t.val % 8 :=
  (by decide +kernel : ∀ t : Fin grid0.N, win0_8.index t (0 : Fin 2) = t.val / 8 ∧ win0_8.index t (1 : Fin 2) = t.val % 8)

/-- Window 3's block is its whole array at every grid point. -/
theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4's block is its whole array at every grid point. -/
theorem index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5's block is its whole array at every grid point. -/
theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6's block is its whole array at every grid point. -/
theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7's block is its whole array at every grid point. -/
theorem index_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- No block of the result is cut. -/
theorem xsize8 : ∀ t : Fin cfg0.N, ∀ a, (cfg0.win 8).xsize (grid0.coords t) a = (cfg0.win 8).size a := by decide +kernel

/-- The array row of row `r` of grid point `t`'s block. -/
def rowAt (t : Fin cfg0.N) (r : Fin 2064) : Fin 82944 :=
  ⟨t.val / 8 * 2064 + r.val, by have := lt_of_lt_of_eq t.isLt Gen.N_0; have := r.isLt; omega⟩

/-- The array lane of lane `e` of grid point `t`'s block. -/
def laneAt (t : Fin cfg0.N) (e : Fin 128) : Fin 1024 := ⟨t.val % 8 * 128 + e.val, by have := e.isLt; omega⟩

/-- Input window 0's block, read at a row and lane. -/
theorem x0_apply (c : Dev nD) (t : Fin cfg0.N) (r : Fin 2064) (e : Fin 128) :
    X0_0 m c t (ix2 r e : S2064x128.Idx) = m ((c : Thread nD τ).loc main_arg0) (ix2 (rowAt t r) (laneAt t e) : S82944x1024.Idx) := by
  obtain ⟨h0, h1⟩ := index_0 t
  unfold X0_0 Pipeline.Window.fill
  rw [dif_pos (moved0_0 t _), ← V_main_arg0 m c]
  show V m c main_arg0 (((cfg0.win 0).blk t).view.emb _) = _
  congr 1
  funext a
  apply Fin.ext
  match a with
  | ⟨0, _⟩ => show win0_0.index t (0 : Fin 2) * 2064 + 1 * r.val = t.val / 8 * 2064 + r.val; omega
  | ⟨1, _⟩ => show win0_0.index t (1 : Fin 2) * 128 + 1 * e.val = t.val % 8 * 128 + e.val; omega

/-- Input window 1's block, read at a row and lane. -/
theorem x1_apply (c : Dev nD) (t : Fin cfg0.N) (r : Fin 2064) (e : Fin 128) :
    X0_1 m c t (ix2 r e : S2064x128.Idx) = m ((c : Thread nD τ).loc main_arg1) (ix2 (rowAt t r) (laneAt t e) : S82944x1024.Idx) := by
  obtain ⟨h0, h1⟩ := index_1 t
  unfold X0_1 Pipeline.Window.fill
  rw [dif_pos (moved0_1 t _), ← V_main_arg1 m c]
  show V m c main_arg1 (((cfg0.win 1).blk t).view.emb _) = _
  congr 1
  funext a
  apply Fin.ext
  match a with
  | ⟨0, _⟩ => show win0_1.index t (0 : Fin 2) * 2064 + 1 * r.val = t.val / 8 * 2064 + r.val; omega
  | ⟨1, _⟩ => show win0_1.index t (1 : Fin 2) * 128 + 1 * e.val = t.val % 8 * 128 + e.val; omega

/-- Input window 2's block, read at a row and lane. -/
theorem x2_apply (c : Dev nD) (t : Fin cfg0.N) (r : Fin 2064) (e : Fin 128) :
    X0_2 m c t (ix2 r e : S2064x128.Idx) = m ((c : Thread nD τ).loc main_arg2) (ix2 (rowAt t r) (laneAt t e) : S82944x1024.Idx) := by
  obtain ⟨h0, h1⟩ := index_2 t
  unfold X0_2 Pipeline.Window.fill
  rw [dif_pos (moved0_2 t _), ← V_main_arg2 m c]
  show V m c main_arg2 (((cfg0.win 2).blk t).view.emb _) = _
  congr 1
  funext a
  apply Fin.ext
  match a with
  | ⟨0, _⟩ => show win0_2.index t (0 : Fin 2) * 2064 + 1 * r.val = t.val / 8 * 2064 + r.val; omega
  | ⟨1, _⟩ => show win0_2.index t (1 : Fin 2) * 128 + 1 * e.val = t.val % 8 * 128 + e.val; omega

/-- Input window 3's block, read at a lane. -/
theorem x3_apply (c : Dev nD) (t : Fin cfg0.N) (e : Fin 64) :
    iblk m c 3 t (ix2 0 e : S1x64.Idx) = m ((c : Thread nD τ).loc main_arg3) (ix1 e : S64.Idx) := by
  obtain ⟨h0, h1⟩ := index_3 t
  have hV : V m c main_v0 = shapeCast S1x64 (m ((c : Thread nD τ).loc main_arg3)) shapeCasts_S64_S1x64 := by
    show StableHlo.after hostOps0 _ (Proc.devRef .tc main_v0) = _
    after_results
    rfl
  have he : iblk m c 3 t (ix2 0 e : S1x64.Idx) = V m c main_v0 (ix2 0 e : S1x64.Idx) := by
    show V m c main_v0 (((cfg0.win 3).blk t).view.emb _) = _
    congr 1
    funext a
    apply Fin.ext
    match a with
    | ⟨0, _⟩ => show win0_3.index t (0 : Fin 2) * 1 + 1 * 0 = 0; omega
    | ⟨1, _⟩ => show win0_3.index t (1 : Fin 2) * 64 + 1 * e.val = e.val; omega
  rw [he, hV]
  pointwise

/-- Input window 4's block, read at a lane. -/
theorem x4_apply (c : Dev nD) (t : Fin cfg0.N) (e : Fin 64) :
    iblk m c 4 t (ix2 0 e : S1x64.Idx) = m ((c : Thread nD τ).loc main_arg4) (ix1 e : S64.Idx) := by
  obtain ⟨h0, h1⟩ := index_4 t
  have hV : V m c main_v1 = shapeCast S1x64 (m ((c : Thread nD τ).loc main_arg4)) shapeCasts_S64_S1x64 := by
    show StableHlo.after hostOps0 _ (Proc.devRef .tc main_v1) = _
    after_results
    rfl
  have he : iblk m c 4 t (ix2 0 e : S1x64.Idx) = V m c main_v1 (ix2 0 e : S1x64.Idx) := by
    show V m c main_v1 (((cfg0.win 4).blk t).view.emb _) = _
    congr 1
    funext a
    apply Fin.ext
    match a with
    | ⟨0, _⟩ => show win0_4.index t (0 : Fin 2) * 1 + 1 * 0 = 0; omega
    | ⟨1, _⟩ => show win0_4.index t (1 : Fin 2) * 64 + 1 * e.val = e.val; omega
  rw [he, hV]
  pointwise

/-- Input window 5's block, read at a lane. -/
theorem x5_apply (c : Dev nD) (t : Fin cfg0.N) (e : Fin 64) :
    iblk m c 5 t (ix2 0 e : S1x64.Idx) = m ((c : Thread nD τ).loc main_arg5) (ix1 e : S64.Idx) := by
  obtain ⟨h0, h1⟩ := index_5 t
  have hV : V m c main_v2 = shapeCast S1x64 (m ((c : Thread nD τ).loc main_arg5)) shapeCasts_S64_S1x64 := by
    show StableHlo.after hostOps0 _ (Proc.devRef .tc main_v2) = _
    after_results
    rfl
  have he : iblk m c 5 t (ix2 0 e : S1x64.Idx) = V m c main_v2 (ix2 0 e : S1x64.Idx) := by
    show V m c main_v2 (((cfg0.win 5).blk t).view.emb _) = _
    congr 1
    funext a
    apply Fin.ext
    match a with
    | ⟨0, _⟩ => show win0_5.index t (0 : Fin 2) * 1 + 1 * 0 = 0; omega
    | ⟨1, _⟩ => show win0_5.index t (1 : Fin 2) * 64 + 1 * e.val = e.val; omega
  rw [he, hV]
  pointwise

/-- Input window 6's block, read at a lane. -/
theorem x6_apply (c : Dev nD) (t : Fin cfg0.N) (e : Fin 64) :
    iblk m c 6 t (ix2 0 e : S1x64.Idx) = m ((c : Thread nD τ).loc main_arg6) (ix1 e : S64.Idx) := by
  obtain ⟨h0, h1⟩ := index_6 t
  have hV : V m c main_v3 = shapeCast S1x64 (m ((c : Thread nD τ).loc main_arg6)) shapeCasts_S64_S1x64 := by
    show StableHlo.after hostOps0 _ (Proc.devRef .tc main_v3) = _
    after_results
    rfl
  have he : iblk m c 6 t (ix2 0 e : S1x64.Idx) = V m c main_v3 (ix2 0 e : S1x64.Idx) := by
    show V m c main_v3 (((cfg0.win 6).blk t).view.emb _) = _
    congr 1
    funext a
    apply Fin.ext
    match a with
    | ⟨0, _⟩ => show win0_6.index t (0 : Fin 2) * 1 + 1 * 0 = 0; omega
    | ⟨1, _⟩ => show win0_6.index t (1 : Fin 2) * 64 + 1 * e.val = e.val; omega
  rw [he, hV]
  pointwise

/-- Input window 7's block, read at a lane. -/
theorem x7_apply (c : Dev nD) (t : Fin cfg0.N) (e : Fin 128) :
    iblk m c 7 t (ix2 0 e : S1x128.Idx) = m ((c : Thread nD τ).loc main_arg7) (ix1 e : S128.Idx) := by
  obtain ⟨h0, h1⟩ := index_7 t
  have hV : V m c main_v4 = shapeCast S1x128 (m ((c : Thread nD τ).loc main_arg7)) shapeCasts_S128_S1x128 := by
    show StableHlo.after hostOps0 _ (Proc.devRef .tc main_v4) = _
    after_results
    rfl
  have he : iblk m c 7 t (ix2 0 e : S1x128.Idx) = V m c main_v4 (ix2 0 e : S1x128.Idx) := by
    show V m c main_v4 (((cfg0.win 7).blk t).view.emb _) = _
    congr 1
    funext a
    apply Fin.ext
    match a with
    | ⟨0, _⟩ => show win0_7.index t (0 : Fin 2) * 1 + 1 * 0 = 0; omega
    | ⟨1, _⟩ => show win0_7.index t (1 : Fin 2) * 128 + 1 * e.val = e.val; omega
  rw [he, hV]
  pointwise

/-- The attention array on the rows the sequences fill, zero elsewhere. -/
def G (c : Dev nD) (i : S82944x1024.Idx) : Elt Ideal .bf16 :=
  if h : (i 0).val < 82560 then
    Cert.Att.attAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (i 0) (i 1) h
  else 0

/-- Every element of the rows the sequences fill is a real number. -/
def RealRows (x : S82944x1024.Idx → EReal) : Prop := ∀ (r : Fin 82944) (l : Fin 1024), r.val < 82560 → ∃ a : ℝ, x (ix2 r l) = a

/-- Rows of a grid point's block are rows the sequences fill. -/
theorem rowAt_lt (t : Fin cfg0.N) (r : Fin 2064) : (rowAt t r).val < 82560 := by
  have := lt_of_lt_of_eq t.isLt Gen.N_0
  have := r.isLt
  show t.val / 8 * 2064 + r.val < 82560
  omega

/-- A grid point's block of attention rows is its block of the attention array. -/
theorem block_eq (c : Dev nD) (t : Fin cfg0.N) (r : Fin 2064) (e : Fin 128) :
    blockRow (X0_0 m c t) (X0_1 m c t) (X0_2 m c t) (iblk m c 3 t) (iblk m c 4 t) (iblk m c 5 t) (iblk m c 6 t) (iblk m c 7 t) r e
      = G m c (ix2 (rowAt t r) (laneAt t e)) := by
  have ht := lt_of_lt_of_eq t.isLt Gen.N_0
  have hr := r.isLt
  have he := e.isLt
  unfold G
  rw [dif_pos (show ((ix2 (rowAt t r) (laneAt t e) : S82944x1024.Idx) 0).val < 82560 from rowAt_lt t r)]
  have eb : (⟨(rowAt t r).val / 2064, by have := (rowAt t r).isLt; have := rowAt_lt t r; omega⟩ : Fin 40) = ⟨t.val / 8, by omega⟩ := Fin.ext (by show (t.val / 8 * 2064 + r.val) / 2064 = t.val / 8; omega)
  have es : (⟨(rowAt t r).val % 2064, by omega⟩ : Fin 2064) = r := Fin.ext (by show (t.val / 8 * 2064 + r.val) % 2064 = r.val; omega)
  have eh : (⟨(laneAt t e).val / 128, by have := (laneAt t e).isLt; omega⟩ : Fin 8) = ⟨t.val % 8, by omega⟩ := Fin.ext (by show (t.val % 8 * 128 + e.val) / 128 = t.val % 8; omega)
  have ee : (⟨(laneAt t e).val % 128, by omega⟩ : Fin 128) = e := Fin.ext (by show (t.val % 8 * 128 + e.val) % 128 = e.val; omega)
  have hq : bhalf (X0_0 m c t) r = Cert.Att.half (m ((c : Thread nD τ).loc main_arg0)) ⟨t.val / 8, by omega⟩ ⟨t.val % 8, by omega⟩ r := by
    funext a d
    unfold bhalf Cert.Att.half
    rw [x0_apply]
    congr 2
    exact Fin.ext (by show t.val % 8 * 128 + (a.val * 64 + d.val) = t.val % 8 * 128 + a.val * 64 + d.val; omega)
  have hk : bhalf (X0_1 m c t) = Cert.Att.half (m ((c : Thread nD τ).loc main_arg1)) ⟨t.val / 8, by omega⟩ ⟨t.val % 8, by omega⟩ := by
    funext s a d
    unfold bhalf Cert.Att.half
    rw [x1_apply]
    congr 2
    exact Fin.ext (by show t.val % 8 * 128 + (a.val * 64 + d.val) = t.val % 8 * 128 + a.val * 64 + d.val; omega)
  have hv : (fun (s : Fin 2064) (e : Fin 128) => X0_2 m c t (ix2 s e)) = Cert.Att.lane (m ((c : Thread nD τ).loc main_arg2)) ⟨t.val / 8, by omega⟩ ⟨t.val % 8, by omega⟩ := by
    funext s e
    rw [x2_apply]
    rfl
  unfold blockRow
  rw [hq, hk, hv]
  simp only [x3_apply, x4_apply, x5_apply, x6_apply, x7_apply]
  show _ = Cert.Att.attAt _ _ _ _ _ _ _ _ (rowAt t r) (laneAt t e) _
  unfold Cert.Att.attAt
  rw [eb, es, eh, ee]

/-- What a grid point writes back is its block of the attention array. -/
theorem flushed_eq (c : Dev nD) (hq : RealRows (m ((c : Thread nD τ).loc main_arg0))) (hk : RealRows (m ((c : Thread nD τ).loc main_arg1))) (t : Fin cfg0.N) :
    (dats m 0 c).flushed 8 t = ((cfg0.win 8).blk t).view.read (Elt Ideal) (G m c) := by
  obtain ⟨h0, h1⟩ := index_8 t
  rw [Cert.KernelIdeal.Value.flushed8_A]
  funext j
  show out0_A_8 (F := Ideal) _ _ _ _ _ _ _ _ _ _ _ _ _ _ _ _ _ _ _ _ _ _ _ _ _ _ _ _ _ _ _ _ _ _ ((cfg0.win 8).xinj (grid0.coords t) j) = G m c (((cfg0.win 8).blk t).view.emb j)
  have hx : ((cfg0.win 8).xinj (grid0.coords t) j : S2064x128.Idx) = ix2 ((cfg0.win 8).xinj (grid0.coords t) j 0 : Fin 2064) ((cfg0.win 8).xinj (grid0.coords t) j 1 : Fin 128) := funext fun a => by
    match a with
    | ⟨0, _⟩ => rfl
    | ⟨1, _⟩ => rfl
  have hy : ((cfg0.win 8).blk t).view.emb j = (ix2 (rowAt t ((cfg0.win 8).xinj (grid0.coords t) j 0 : Fin 2064)) (laneAt t ((cfg0.win 8).xinj (grid0.coords t) j 1 : Fin 128)) : S82944x1024.Idx) := by
    funext a
    apply Fin.ext
    match a with
    | ⟨0, _⟩ => show win0_8.index t (0 : Fin 2) * 2064 + 1 * (j 0).val = t.val / 8 * 2064 + (j 0).val; omega
    | ⟨1, _⟩ => show win0_8.index t (1 : Fin 2) * 128 + 1 * (j 1).val = t.val % 8 * 128 + (j 1).val; omega
  rw [hx, hy]
  refine (out_eq _ _ _ _ _ _ _ _ _ _ _ _ _ _ _ _ _ _ _ _ _ _ _ _ _ _ _ _ _ _ _ _ _ _ ?_ ?_ _ _).trans (block_eq m c t _ _)
  · intro r e
    rw [x0_apply]
    exact hq _ _ (rowAt_lt t r)
  · intro r e
    rw [x1_apply]
    exact hk _ _ (rowAt_lt t r)

/-- The result array after the run, at a row the sequences fill. -/
theorem final_apply (c : Dev nD) (hq : RealRows (m ((c : Thread nD τ).loc main_arg0))) (hk : RealRows (m ((c : Thread nD τ).loc main_arg1)))
    (r : Fin 82944) (l : Fin 1024) (h : r.val < 82560) :
    (dats m 0 c).arrAt 8 cfg0.N (ix2 r l : S82944x1024.Idx)
      = Cert.Att.attAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) r l h := by
  have hl := l.isLt
  let t : Fin cfg0.N := ⟨r.val / 2064 * 8 + l.val / 128, lt_of_lt_of_eq (by omega) Gen.N_0.symm⟩
  obtain ⟨h0, h1⟩ := index_8 t
  have hx0 : (cfg0.win 8).xsize (grid0.coords t) 0 = 2064 := xsize8 t 0
  have hx1 : (cfg0.win 8).xsize (grid0.coords t) 1 = 128 := xsize8 t 1
  have hm : (ix2 r l : S82944x1024.Idx) ∈ ((cfg0.win 8).blk t).view.set := by
    let j : ((cfg0.win 8).xblock (grid0.coords t)).Idx := fun a => match a with
      | ⟨0, _⟩ => ⟨r.val % 2064, lt_of_lt_of_eq (by omega) hx0.symm⟩
      | ⟨1, _⟩ => ⟨l.val % 128, lt_of_lt_of_eq (by omega) hx1.symm⟩
    have hj : ((cfg0.win 8).blk t).view.emb j = (ix2 r l : S82944x1024.Idx) := by
      funext a
      apply Fin.ext
      match a with
      | ⟨0, _⟩ => show win0_8.index t (0 : Fin 2) * 2064 + 1 * (r.val % 2064) = r.val; rw [h0]; show (r.val / 2064 * 8 + l.val / 128) / 8 * 2064 + 1 * (r.val % 2064) = r.val; omega
      | ⟨1, _⟩ => show win0_8.index t (1 : Fin 2) * 128 + 1 * (l.val % 128) = l.val; rw [h1]; show (r.val / 2064 * 8 + l.val / 128) % 8 * 128 + 1 * (l.val % 128) = l.val; omega
    have := ((cfg0.win 8).blk t).view.emb_mem_set j
    rwa [hj] at this
  rw [(dats m 0 c).arrAt_apply_of_mem 8 (G m c) (fun t _ => flushed_eq m c hq hk t) cfg0.N t _ t.isLt (flush0_8 t) hm]
  unfold G
  exact dif_pos h

end Cert.KernelIdeal.Att

end
-- ==== Proof.RefStages.lean ====
module

public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe Idealize.ShloMosaic.Tactic Idealize.SL.Sem

/-- The real rows of a `[tokens, 1024]` array, cut into sequence, position, head, map and lane. -/
def heads2 (x : FVec Ideal S82944x1024 .bf16) : FVec Ideal S40x2064x8x2x64 .f32 :=
  shapeCast _ (extf .f32 (extractStridedSlice S82560x1024 ![0, 0] x slices_S82944x1024_S82560x1024_0_0) bitsLt_bf16_f32)
    shapeCasts_S82560x1024_S40x2064x8x2x64

/-- The real rows of a `[tokens, 1024]` array, cut into sequence, position, head and lane. -/
def heads1 (x : FVec Ideal S82944x1024 .bf16) : FVec Ideal S40x2064x8x128 .f32 :=
  shapeCast _ (extf .f32 (extractStridedSlice S82560x1024 ![0, 0] x slices_S82944x1024_S82560x1024_0_0) bitsLt_bf16_f32)
    shapeCasts_S82560x1024_S40x2064x8x128

/-- The two maps' scores, by sequence, head, map, query and key. -/
def scores (q k : FVec Ideal S82944x1024 .bf16) : FVec Ideal S40x8x2x2064x2064 .f32 :=
  Host.dotGeneral dot_S40x2064x8x2x64_S40x2064x8x2x64_S40x8x2x2064x2064_4_4_1_1_023_023 none (heads2 q) (heads2 k)

/-- Each score row's maximum, as a reduction from the initial value. -/
def rowMax (s : FVec Ideal S40x8x2x2064x2064 .f32) : FVec Ideal S40x8x2x2064 .f32 :=
  Host.reduce FloatOps.maximumf s (constant S_ .f32 0xFF800000#32) reducesTo_S40x8x2x2064x2064_S40x8x2x2064_d4 h_S_

/-- The scores' exponentials, each row less its maximum `x`. -/
def expd (s : FVec Ideal S40x8x2x2064x2064 .f32) (x : FVec Ideal S40x8x2x2064 .f32) : FVec Ideal S40x8x2x2064x2064 .f32 :=
  Host.exp (subf s (broadcastInDim S40x8x2x2064x2064 ![0, 1, 2, 3, 4] bcast_S40x8x2x2064x1_S40x8x2x2064x2064_0_1_2_3_4
    (broadcastInDim S40x8x2x2064x1 ![0, 1, 2, 3] bcast_S40x8x2x2064_S40x8x2x2064x1_0_1_2_3
      (maximumf (broadcastInDim S40x8x2x2064 ![] bcast_S_S40x8x2x2064 (constant S_ .f32 0xFF800000#32)) x))))

/-- The softmax of exponentials `e`: each over its row's sum. -/
def soft (e : FVec Ideal S40x8x2x2064x2064 .f32) : FVec Ideal S40x8x2x2064x2064 .f32 :=
  Host.divf e (broadcastInDim S40x8x2x2064x2064 ![0, 1, 2, 3, 4] bcast_S40x8x2x2064x1_S40x8x2x2064x2064_0_1_2_3_4
    (broadcastInDim S40x8x2x2064x1 ![0, 1, 2, 3] bcast_S40x8x2x2064_S40x8x2x2064x1_0_1_2_3
      (Host.reduceAdd e (constant S_ .f32 0x00000000#32) reducesTo_S40x8x2x2064x2064_S40x8x2x2064_d4 h_S_)))

/-- The mixing scalar. -/
def lamR (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3EB60549#32)

/-- The difference of the two maps' weights. -/
def weights (p : FVec Ideal S40x8x2x2064x2064 .f32) (l : FVec Ideal S_ .f32) : FVec Ideal S40x8x2064x2064 .f32 :=
  subf (shapeCast _ (extractStridedSlice S40x8x1x2064x2064 ![0, 0, 0, 0, 0] p slices_S40x8x2x2064x2064_S40x8x1x2064x2064_0_0_0_0_0) shapeCasts_S40x8x1x2064x2064_S40x8x2064x2064)
    (mulf (broadcastInDim S40x8x2064x2064 ![] bcast_S_S40x8x2064x2064 l)
      (shapeCast _ (extractStridedSlice S40x8x1x2064x2064 ![0, 0, 1, 0, 0] p slices_S40x8x2x2064x2064_S40x8x1x2064x2064_0_0_1_0_0) shapeCasts_S40x8x1x2064x2064_S40x8x2064x2064))

/-- The weighted values, by sequence, position, head and lane. -/
def mixed (v : FVec Ideal S40x2064x8x128 .f32) (w : FVec Ideal S40x8x2064x2064 .f32) : FVec Ideal S40x2064x8x128 .f32 :=
  transpose S40x2064x8x128 [0, 3, 1, 2] (Host.dotGeneral dot_S40x2064x8x128_S40x8x2064x2064_S40x8x128x2064_1_3_3_2_02_01 none v w)
    transposes_S40x8x128x2064_S40x2064x8x128_0_3_1_2

/-- The head norm of `o`, scaled by `g` and the constant. -/
def normed (o : FVec Ideal S40x2064x8x128 .f32) (g : FVec Ideal S128 .f32) : FVec Ideal S40x2064x8x128 .f32 :=
  mulf (mulf (mulf o (broadcastInDim S40x2064x8x128 ![0, 1, 2, 3] bcast_S40x2064x8x1_S40x2064x8x128_0_1_2_3
    (Host.rsqrt (addf (Host.divf (broadcastInDim S40x2064x8x1 ![0, 1, 2] bcast_S40x2064x8_S40x2064x8x1_0_1_2
      (Host.reduceAdd (mulf o o) (constant S_ .f32 0x00000000#32) reducesTo_S40x2064x8x128_S40x2064x8_d3 h_S_))
      (broadcastInDim S40x2064x8x1 ![] bcast_S_S40x2064x8x1 (constant S_ .f32 0x43000000#32)))
      (broadcastInDim S40x2064x8x1 ![] bcast_S_S40x2064x8x1 (constant S_ .f32 0x3727C5AC#32))))))
    (broadcastInDim S40x2064x8x128 ![0, 1, 2, 3] bcast_S1x1x1x128_S40x2064x8x128_0_1_2_3
      (broadcastInDim S1x1x1x128 ![3] bcast_S128_S1x1x1x128_3 g)))
    (broadcastInDim S40x2064x8x128 ![] bcast_S_S40x2064x8x128 (constant S_ .f32 0x3F24FD5C#32))

/-- The rows back in one array, the padding rows added. -/
def flat (o : FVec Ideal S40x2064x8x128 .f32) : FVec Ideal S82944x1024 .bf16 :=
  truncf .bf16 (pad S82944x1024 ![0, 0] ![384, 0] ![0, 0] (shapeCast _ o shapeCasts_S40x2064x8x128_S82560x1024)
    (sitofp .f32 (constantI S_ 32 0#32)) pads_S82560x1024_S82944x1024_03840_000 h_S_) bitsLt_bf16_f32

/-- The reference's result is the stages composed. -/
theorem res_eq (m : (ℓ : Loc nD τ sig) → Buf (Elt Ideal) ℓ) (c : Dev nD) :
    res_main_v55 m c = flat (normed (mixed (heads1 (m ((c.tc : Thread nD τ).loc main_arg2)))
      (weights (soft (expd (scores (m ((c.tc : Thread nD τ).loc main_arg0)) (m ((c.tc : Thread nD τ).loc main_arg1)))
        (rowMax (scores (m ((c.tc : Thread nD τ).loc main_arg0)) (m ((c.tc : Thread nD τ).loc main_arg1))))))
        (lamR (m ((c.tc : Thread nD τ).loc main_arg3)) (m ((c.tc : Thread nD τ).loc main_arg4)) (m ((c.tc : Thread nD τ).loc main_arg5)) (m ((c.tc : Thread nD τ).loc main_arg6)))))
      (m ((c.tc : Thread nD τ).loc main_arg7))) := by
  unfold res_main_v55 flat normed mixed weights soft expd rowMax scores heads1 heads2 lamR
  rfl

end Cert.ReferenceIdeal.Att
-- ==== Proof.RefValue.lean ====
module

public import proofs.«01_k».proof.Proof.RefStages
public import proofs.«01_k».proof.Proof.SoftRow

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe Idealize.ShloMosaic.Tactic Idealize.SL.Sem

/-- A map half of a head, read from the array. -/
theorem heads2_apply (x : FVec Ideal S82944x1024 .bf16) (b : Fin 40) (s : Fin 2064) (h : Fin 8) (a : Fin 2) (d : Fin 64) :
    heads2 x (ix5 b s h a d) = Cert.Att.half x b h s a d := by
  pointwise [heads2]
  rfl

/-- A head's lane, read from the array. -/
theorem heads1_apply (x : FVec Ideal S82944x1024 .bf16) (b : Fin 40) (s : Fin 2064) (h : Fin 8) (e : Fin 128) :
    heads1 x (ix4 b s h e) = Cert.Att.lane x b h s e := by
  pointwise [heads1]
  rfl

/-- A score is the product of the query's half and the key's half. -/
theorem scores_apply (q k : FVec Ideal S82944x1024 .bf16) (b : Fin 40) (s t : Fin 2064) (h : Fin 8) (a : Fin 2) :
    scores q k (ix5 b h a s t) = ∑ d, Cert.Att.half q b h s a d * Cert.Att.half k b h t a d := by
  pointwise [scores]
  simp only [heads2_apply]

/-- The row maximum of the scores. -/
theorem rowMax_apply (s : FVec Ideal S40x8x2x2064x2064 .f32) (b : Fin 40) (i : Fin 2064) (h : Fin 8) (a : Fin 2) :
    rowMax s (ix4 b h a i) = Cert.Att.rmax fun t => s (ix5 b h a i t) := by
  unfold rowMax Cert.Att.rmax
  rw [Host.reduce_eq_fold, Shape.ReducesTo.fold_fiber_r5_a4, ← Cert.Att.ofBits_neg_inf]
  rfl

/-- An exponential of a score less the row maximum. -/
theorem expd_apply (s : FVec Ideal S40x8x2x2064x2064 .f32) (x : FVec Ideal S40x8x2x2064 .f32) (b : Fin 40) (i t : Fin 2064) (h : Fin 8) (a : Fin 2) :
    expd s x (ix5 b h a i t) = Ideal.exp (s (ix5 b h a i t) - x (ix4 b h a i)) := by
  pointwise [expd]
  rw [Cert.Att.ofBits_neg_inf, max_eq_right bot_le]

/-- A quotient of an exponential by its row's sum. -/
theorem soft_apply (e : FVec Ideal S40x8x2x2064x2064 .f32) (b : Fin 40) (i t : Fin 2064) (h : Fin 8) (a : Fin 2) :
    soft e (ix5 b h a i t) = Ideal.div (e (ix5 b h a i t)) (∑ u, e (ix5 b h a i u)) := by
  pointwise [soft]

/-- The reference's softmax of scores is the softmax of each score row. -/
theorem soft_expd (s : FVec Ideal S40x8x2x2064x2064 .f32) (b : Fin 40) (i t : Fin 2064) (h : Fin 8) (a : Fin 2) :
    soft (expd s (rowMax s)) (ix5 b h a i t) = Cert.Att.soft (fun u => s (ix5 b h a i u)) t := by
  rw [soft_apply]
  simp only [expd_apply, rowMax_apply]
  rfl

/-- The mixing scalar. -/
theorem lamR_apply (x y z w : FVec Ideal S64 .f32) (i : S_.Idx) :
    lamR x y z w i = Cert.Att.lamOf (fun d => x (ix1 d)) (fun d => y (ix1 d)) (fun d => z (ix1 d)) (fun d => w (ix1 d)) := by
  pointwise [lamR]
  rfl

/-- A weight is the first map's less the scalar times the second's. -/
theorem weights_apply (p : FVec Ideal S40x8x2x2064x2064 .f32) (l : FVec Ideal S_ .f32) (b : Fin 40) (i t : Fin 2064) (h : Fin 8) :
    weights p l (ix4 b h i t) = p (ix5 b h 0 i t) - l ix0 * p (ix5 b h 1 i t) := by
  pointwise [weights]

/-- A mixed value is the weighted sum of the values. -/
theorem mixed_apply (v : FVec Ideal S40x2064x8x128 .f32) (w : FVec Ideal S40x8x2064x2064 .f32) (b : Fin 40) (i : Fin 2064) (h : Fin 8) (e : Fin 128) :
    mixed v w (ix4 b i h e) = ∑ t, v (ix4 b t h e) * w (ix4 b h i t) := by
  pointwise [mixed]

/-- The head norm of the mixed values. -/
theorem normed_apply (o : FVec Ideal S40x2064x8x128 .f32) (g : FVec Ideal S128 .f32) (b : Fin 40) (i : Fin 2064) (h : Fin 8) (e : Fin 128) :
    normed o g (ix4 b i h e) = Cert.Att.headNorm (fun x => o (ix4 b i h x)) (fun x => g (ix1 x)) e := by
  pointwise [normed]
  rfl

/-- A real row of the result is the row of the head-cut array. -/
theorem flat_apply (o : FVec Ideal S40x2064x8x128 .f32) (r : Fin 82944) (l : Fin 1024) (hr : r.val < 82560) :
    flat o (ix2 r l) = o (ix4 ⟨r.val / 2064, by omega⟩ ⟨r.val % 2064, by omega⟩ ⟨l.val / 128, by omega⟩ ⟨l.val % 128, by omega⟩) := by
  pointwise [flat, hr]

/-- What the reference returns at a real row and lane. -/
theorem res_apply (m : (ℓ : Loc nD τ sig) → Buf (Elt Ideal) ℓ) (c : Dev nD) (r : Fin 82944) (l : Fin 1024) (hr : r.val < 82560) :
    res_main_v55 m c (ix2 r l : S82944x1024.Idx) = Cert.Att.attAt
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) r l hr := by
  rw [res_eq, flat_apply _ r l hr, normed_apply]
  simp only [mixed_apply, heads1_apply, weights_apply, soft_expd, scores_apply, lamR_apply]
  rfl

end Cert.ReferenceIdeal.Att
-- ==== Proof.Finite.lean ====
module

public import proofs.«01_k».proof.Defs
public import proofs.«01_k».proof.Proof.Gen.On_real_rows
public import proofs.«01_k».proof.Proof.KRun
public import Idealize.ShloMosaic.Lib.Pointwise

@[expose] public section

set_option maxRecDepth 16384

noncomputable section

namespace Cert.Att

open Idealize.ShloMosaic Idealize.ShloMosaic.Tactic

/-- The shape relations the precondition's operations take. -/
instance preFacts : Cert.Pre_finite_qk.Facts where
  slices_S82944x1024_S82560x1024_0_0 := by decide +kernel
  bitsLt_bf16_f32 := by decide
  bcast_S_S82560x1024 := by decide

/-- An extended real of absolute value below `⊤` is a real number. -/
theorem real_of_abs_lt (x : EReal) (h : max x (-x) < ⊤) : ∃ a : ℝ, x = a := by
  induction x using EReal.rec with
  | bot => simp at h
  | top => simp at h
  | coe a => exact ⟨a, rfl⟩

/-- The bits of infinity denote `⊤`. -/
theorem ofBits_inf : Ideal.ofBits .f32 0x7F800000#32 = ⊤ := by simp [Ideal.ofBits, Ideal.ieee]

/-- Both of two conditions hold when the conjunction of their bits is set. -/
theorem and_true {p q : Prop} [Decidable p] [Decidable q] (h : IntOp.andi (BitVec.ofBool (decide p)) (BitVec.ofBool (decide q)) = 1#1) : p ∧ q := by
  by_cases hp : p <;> by_cases hq : q <;> simp [hp, hq, IntOp.andi] at h ⊢

/-- The precondition says that the rows of `q` and `k` that the sequences fill are real numbers. -/
theorem real_of_pre (q k v : Cert.Pre_finite_qk.S82944x1024.Idx → EReal) (a b c d : Cert.Pre_finite_qk.S64.Idx → EReal) (g : Cert.Pre_finite_qk.S128.Idx → EReal)
    (h : Cert.Pre_finite_qk.fn (F := Ideal) q k v a b c d g = fun _ => 1#1) : Cert.KernelIdeal.Att.RealRows q ∧ Cert.KernelIdeal.Att.RealRows k := by
  have hh : ∀ (r : Fin 82560) (l : Fin 1024), Cert.Pre_finite_qk.fn (F := Ideal) q k v a b c d g (ix2 r l) = 1#1 := fun r l => by rw [h]
  pointwise [Cert.Pre_finite_qk.fn] at hh
  rw [ofBits_inf] at hh
  exact ⟨fun r l hr => real_of_abs_lt _ (and_true (hh ⟨r.val, hr⟩ l)).1, fun r l hr => real_of_abs_lt _ (and_true (hh ⟨r.val, hr⟩ l)).2⟩

/-- Comparing a small row number with the row count. -/
theorem slt_small (n : ℕ) (hn : n < 82944) (h : IntOp.cmpi CmpIPredicate.slt (BitVec.ofNat 32 n) (BitVec.ofNat 32 82560) = 1#1) : n < 82560 := by
  unfold IntOp.cmpi at h
  have e : (BitVec.ofNat 32 n).slt (BitVec.ofNat 32 82560) = decide (n < 82560) := by
    rw [BitVec.slt_eq_decide, BitVec.toInt_ofNat', BitVec.toInt_ofNat']
    rw [Int.bmod_eq_of_le (by omega) (by omega), Int.bmod_eq_of_le (by omega) (by omega)]
    exact decide_eq_decide.mpr (by omega)
  by_contra hlt
  simp [e, hlt] at h

/-- The mask selects the rows the sequences fill. -/
theorem row_lt (q k v : Cert.Pre_finite_qk.S82944x1024.Idx → EReal) (a b c d : Cert.Pre_finite_qk.S64.Idx → EReal) (g : Cert.Pre_finite_qk.S128.Idx → EReal)
    (r : Fin 82944) (l : Fin 1024) (h : Cert.On_real_rows.fn (F := Ideal) q k v a b c d g (ix2 r l) = 1#1) : r.val < 82560 := by
  revert h
  pointwise [Cert.On_real_rows.fn]
  exact slt_small r.val r.isLt

end Cert.Att

end
-- ==== Proof.Rows.lean ====
/- The row functions that the projections and the final norm are stated by. -/
module

public import Idealize.ShloMosaic.Lib.Pointwise

@[expose] public section

noncomputable section

namespace Cert.Row

open Idealize.ShloMosaic

/-- A row of 1024 numbers over the root of its mean square plus epsilon, times the gain. -/
def normRow (x g : Fin 1024 → EReal) (k : Fin 1024) : EReal :=
  x k * Ideal.rsqrt (Ideal.div (∑ j, x j * x j) (Ideal.ofBits .f32 0x44800000#32) + Ideal.ofBits .f32 0x3727C5AC#32) * g k

/-- A residual plus the product of a row of `x` with a column of the weight. -/
def residual {K : ℕ} (x : (⟨2, ![82944, K]⟩ : Shape).Idx → EReal) (w : (⟨2, ![K, 1024]⟩ : Shape).Idx → EReal)
    (h : (⟨2, ![82944, 1024]⟩ : Shape).Idx → EReal) (r : Fin 82944) (l : Fin 1024) : EReal :=
  h (ix2 r l) + ∑ k, x (ix2 r k) * w (ix2 k l)

/-- The product of a normed row of `x` with a column of the weight. -/
def proj {M : ℕ} (x : (⟨2, ![82944, 1024]⟩ : Shape).Idx → EReal) (g : (⟨1, ![1024]⟩ : Shape).Idx → EReal) (w : (⟨2, ![1024, M]⟩ : Shape).Idx → EReal)
    (r : Fin 82944) (l : Fin M) : EReal :=
  ∑ k, normRow (fun j => x (ix2 r j)) (fun j => g (ix1 j)) k * w (ix2 k l)

/-- The step columns in the scan's order: for each of four groups its eight forward steps, its eight backward steps, then zeros up to 128. -/
def stepAt (f : Fin 5184 → EReal) (j : Fin 512) : EReal :=
  if h : j.val % 128 < 8 then f ⟨5120 + (j.val / 128 * 8 + j.val % 128), by omega⟩
  else if h : j.val % 128 - 8 < 8 then f ⟨5120 + (32 + (j.val / 128 * 8 + (j.val % 128 - 8))), by omega⟩ else 0

/-- Ordering the weight's columns orders the products. -/
theorem sum_stepAt (n : Fin 1024 → EReal) (w : Fin 1024 → Fin 5184 → EReal) (j : Fin 512) :
    ∑ k, n k * stepAt (w k) j = stepAt (fun l => ∑ k, n k * w k l) j := by
  unfold stepAt
  split_ifs
  · rfl
  · rfl
  · simp

/-- The step columns read through a padded array are the same, the padding being zero. -/
theorem stepAt_pad (f : Fin 5184 → EReal) (j : Fin 512) (z : EReal) (hz : z = 0) :
    (if _h : j.val / 128 < 4 ∧ j.val % 128 < 16 then
      if _h1 : j.val % 128 < 8 then f ⟨5120 + (j.val / 128 * 8 + j.val % 128), by omega⟩
      else f ⟨5120 + (32 + (j.val / 128 * 8 + (j.val % 128 - 8))), by omega⟩
    else z) = stepAt f j := by
  subst hz
  unfold stepAt
  split_ifs <;> first | rfl | omega

/-- The angle of a position at a frequency. -/
def angle (p : ℕ) (d : Fin 32) : EReal :=
  (FloatOps.sitofp (F := Ideal) .f32 (BitVec.ofNat 32 p) : EReal) *
    Ideal.div 1 (Ideal.pow (Ideal.ofBits .f32 0x461C4000#32)
      (Ideal.div (Ideal.ofBits .f32 0x40000000#32 * (FloatOps.sitofp (F := Ideal) .f32 (BitVec.ofNat 32 d.val) : EReal)) (Ideal.ofBits .f32 0x42800000#32)))

/-- A row of sixteen heads of 64 lanes, each head's two halves rotated by the angles. -/
def ropeAt (p : Fin 1024 → EReal) (a : Fin 32 → EReal) (l : Fin 1024) : EReal :=
  if h : l.val % 64 < 32 then p l * Ideal.cos (a ⟨l.val % 64, h⟩) - p ⟨l.val + 32, by omega⟩ * Ideal.sin (a ⟨l.val % 64, h⟩)
  else p l * Ideal.cos (a ⟨l.val % 64 - 32, by omega⟩) + p ⟨l.val - 32, by omega⟩ * Ideal.sin (a ⟨l.val % 64 - 32, by omega⟩)

/-- Eight copies of 128 lanes side by side, read lane by lane. -/
theorem rep8 (f : Fin 128 → EReal) (l : Fin 1024) :
    (if h : l.val < 128 then f ⟨l.val, h⟩ else (if h : l.val - 128 < 128 then f ⟨l.val - 128, h⟩ else (if h : l.val - 128 - 128 < 128 then f ⟨l.val - 128 - 128, h⟩ else (if h : l.val - 128 - 128 - 128 < 128 then f ⟨l.val - 128 - 128 - 128, h⟩ else (if h : l.val - 128 - 128 - 128 - 128 < 128 then f ⟨l.val - 128 - 128 - 128 - 128, h⟩ else (if h : l.val - 128 - 128 - 128 - 128 - 128 < 128 then f ⟨l.val - 128 - 128 - 128 - 128 - 128, h⟩ else (if h : l.val - 128 - 128 - 128 - 128 - 128 - 128 < 128 then f ⟨l.val - 128 - 128 - 128 - 128 - 128 - 128, h⟩ else (f ⟨l.val - 128 - 128 - 128 - 128 - 128 - 128 - 128, by omega⟩)))))))) = f ⟨l.val % 128, by omega⟩ := by
  split_ifs <;> exact congrArg f (Fin.ext (by dsimp only; omega))

/-- Two arrays of 32 lanes taken in turn twice, read lane by lane. -/
theorem turns4 (f g : Fin 32 → EReal) (l : Fin 128) :
    (if h : l.val < 32 then f ⟨l.val, h⟩ else (if h : l.val - 32 < 32 then g ⟨l.val - 32, h⟩ else (if h : l.val - 32 - 32 < 32 then f ⟨l.val - 32 - 32, h⟩ else g ⟨l.val - 32 - 32 - 32, by omega⟩)))
      = if l.val % 64 < 32 then f ⟨l.val % 32, by omega⟩ else g ⟨l.val % 32, by omega⟩ := by
  by_cases h1 : l.val < 32
  · rw [dif_pos h1, if_pos (by omega)]
    exact congrArg f (Fin.ext (by dsimp only; omega))
  rw [dif_neg h1]
  by_cases h2 : l.val - 32 < 32
  · rw [dif_pos h2, if_neg (by omega)]
    exact congrArg g (Fin.ext (by dsimp only; omega))
  rw [dif_neg h2]
  by_cases h3 : l.val - 32 - 32 < 32
  · rw [dif_pos h3, if_pos (by omega)]
    exact congrArg f (Fin.ext (by dsimp only; omega))
  · rw [dif_neg h3, if_neg (by omega)]
    exact congrArg g (Fin.ext (by dsimp only; omega))

/-- The bit that tells a head's first half from its second. -/
theorem half_bit : ∀ l : Fin 1024, IntOp.cmpi .eq (IntOp.andi (BitVec.ofNat 32 l.val) 32#32) 0#32 = if l.val % 64 < 32 then 1#1 else 0#1 := by
  decide +kernel

/-- A row's position in its sequence, as the host's signed remainder gives it. -/
theorem srem_row : ∀ n : ℕ, n < 82944 → IntOp.remsi .host (BitVec.ofNat 32 n) 2064#32 = BitVec.ofNat 32 (n % 2064) := by
  intro n hn
  have hc : ¬ IntOp.SDivCorner (BitVec.ofNat 32 n) 2064#32 := by
    rintro (h | h)
    · exact absurd h (by decide)
    · exact absurd h.2 (by decide)
  have hm : (BitVec.ofNat 32 n).msb = false := by
    rw [BitVec.msb_eq_false_iff_two_mul_lt, BitVec.toNat_ofNat]
    omega
  unfold IntOp.remsi
  rw [if_neg hc, BitVec.srem_eq, hm, show (2064#32 : BitVec 32).msb = false by decide]
  apply BitVec.eq_of_toNat_eq
  simp only [BitVec.toNat_umod, BitVec.toNat_ofNat]
  rw [Nat.mod_eq_of_lt (show n < 2 ^ 32 by omega), Nat.mod_eq_of_lt (show 2064 < 2 ^ 32 by omega), Nat.mod_eq_of_lt (show n % 2064 < 2 ^ 32 by omega)]

/-- The host's remainder after its sign is set: a row's position is not negative, so it stays. -/
theorem pos_row (n : ℕ) (hn : n < 82944) (q : BitVec 32) (hq : q = BitVec.ofNat 32 (n % 2064)) :
    Scalar.select (IntOp.andi (IntOp.cmpi .ne (IntOp.cmpi .slt q 0#32) (IntOp.cmpi .slt 2064#32 0#32)) (IntOp.cmpi .ne q 0#32)) (IntOp.addi q 2064#32) q = q := by
  have e : IntOp.cmpi .slt q 0#32 = 0#1 := by
    subst hq
    unfold IntOp.cmpi
    have : (BitVec.ofNat 32 (n % 2064)).slt 0#32 = false := by
      rw [BitVec.slt_eq_decide, BitVec.toInt_ofNat', Int.bmod_eq_of_le (by omega) (by omega)]
      simp
      omega
    simp [this]
  rw [e, show IntOp.cmpi CmpIPredicate.ne (0#1) (IntOp.cmpi .slt 2064#32 0#32) = 0#1 by decide]
  unfold Scalar.select IntOp.andi
  simp

/-- A lane rotated with its partner by the replicated tables: the sines of the first halves are negated, so the sum is the rotation. -/
theorem rope_lane (p : Fin 1024 → EReal) (a : Fin 32 → EReal) (l : Fin 1024) :
    p l * Ideal.cos (a ⟨l.val % 32, by omega⟩)
      + Scalar.select (IntOp.cmpi .eq (IntOp.andi (BitVec.ofNat 32 l.val) 32#32) 0#32) (p ⟨(l.val + 1024 - 992) % 1024, by omega⟩) (p ⟨(l.val + 1024 - 32) % 1024, by omega⟩)
        * (if l.val % 64 < 32 then - Ideal.sin (a ⟨l.val % 32, by omega⟩) else Ideal.sin (a ⟨l.val % 32, by omega⟩)) = ropeAt p a l := by
  rw [half_bit]
  unfold ropeAt
  by_cases h : l.val % 64 < 32
  · rw [if_pos h, if_pos h, dif_pos h]
    have e1 : (⟨l.val % 32, by omega⟩ : Fin 32) = ⟨l.val % 64, h⟩ := Fin.ext (by show l.val % 32 = l.val % 64; omega)
    have e2 : (⟨(l.val + 1024 - 992) % 1024, by omega⟩ : Fin 1024) = ⟨l.val + 32, by omega⟩ := Fin.ext (by show (l.val + 1024 - 992) % 1024 = l.val + 32; omega)
    rw [e1, e2, sub_eq_add_neg]
    show _ + p _ * _ = _
    rw [mul_neg]
  · rw [if_neg h, if_neg h, dif_neg h]
    have e1 : (⟨l.val % 32, by omega⟩ : Fin 32) = ⟨l.val % 64 - 32, by omega⟩ := Fin.ext (by show l.val % 32 = l.val % 64 - 32; omega)
    have e2 : (⟨(l.val + 1024 - 32) % 1024, by omega⟩ : Fin 1024) = ⟨l.val - 32, by omega⟩ := Fin.ext (by show (l.val + 1024 - 32) % 1024 = l.val - 32; omega)
    rw [e1, e2]
    rfl

end Cert.Row

end
-- ==== Proof.InKernel.lean ====
/- What the scan layer's input projection leaves in its results. -/
module

public import proofs.«01_k».proof.Proof.Gen.Kernel2Ideal.Value
public import proofs.«01_k».proof.Proof.Rows
public import Idealize.ShloMosaic.Lib.Pointwise
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.ShloMosaic.TcCoe Idealize.ShloMosaic.Tactic Idealize.SL.Sem

variable (m : (ℓ : Loc nD τ sig) → Buf (Elt Ideal) ℓ)

/-- A tile's rows normed. -/
theorem pay1_apply (x : Vec Ideal S256x1024 .f32) (g : Vec Ideal S1x1024 .f32) (r : Fin 256) (k : Fin 1024) :
    k0_pay1 x g (ix2 r k) = Cert.Row.normRow (fun j => x (ix2 r j)) (fun j => g (ix2 0 j)) k := by
  pointwise [k0_pay1]
  rfl

/-- The first product: the normed rows with a weight. -/
theorem pay2_apply (x : Vec Ideal S256x1024 .f32) (g : Vec Ideal S1x1024 .f32) (w : Vec Ideal S1024x2048 .bf16) (r : Fin 256) (l : Fin 2048) :
    k0_pay2 x g w (ix2 r l) = ∑ k, k0_pay1 x g (ix2 r k) * w (ix2 k l) := by
  pointwise [k0_pay2]

/-- The second product. -/
theorem pay3_apply (x : Vec Ideal S256x1024 .f32) (g : Vec Ideal S1x1024 .f32) (w : Vec Ideal S1024x3072 .bf16) (r : Fin 256) (l : Fin 3072) :
    k0_pay3 x g w (ix2 r l) = ∑ k, k0_pay1 x g (ix2 r k) * w (ix2 k l) := by
  pointwise [k0_pay3]

/-- The third product. -/
theorem pay4_apply (x : Vec Ideal S256x1024 .f32) (g : Vec Ideal S1x1024 .f32) (w : Vec Ideal S1024x512 .bf16) (r : Fin 256) (l : Fin 512) :
    k0_pay4 x g w (ix2 r l) = ∑ k, k0_pay1 x g (ix2 r k) * w (ix2 k l) := by
  pointwise [k0_pay4]

/-- The tile index of each input window: the row tiles follow the grid point, the gain and the weight stay. -/
theorem idx_in : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0))

/-- The tile index of each output window: the row tiles follow the grid point. -/
theorem idx_out : ∀ t : Fin cfg0.N, (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0))

/-- The array row of row `r` of grid point `t`'s tile. -/
def rowAt (t : Fin cfg0.N) (r : Fin 256) : Fin 82944 :=
  ⟨t.val * 256 + r.val, by have := lt_of_lt_of_eq t.isLt Gen.N_0; have := r.isLt; omega⟩

/-- The input rows of a tile. -/
theorem x0_apply (c : Dev nD) (t : Fin cfg0.N) (r : Fin 256) (k : Fin 1024) :
    iblk m c 0 t (ix2 r k : S256x1024.Idx) = m ((c : Thread nD τ).loc main_arg0) (ix2 (rowAt t r) k : S82944x1024.Idx) := by
  obtain ⟨⟨h0, h1⟩, -⟩ := idx_in t
  rw [← V_main_arg0 m c]
  show V m c main_arg0 (((cfg0.win 0).blk t).view.emb _) = _
  congr 1
  funext a
  apply Fin.ext
  match a with
  | ⟨0, _⟩ => show win0_0.index t (0 : Fin 2) * 256 + 1 * r.val = t.val * 256 + r.val; omega
  | ⟨1, _⟩ => show win0_0.index t (1 : Fin 2) * 1024 + 1 * k.val = k.val; omega

/-- The gain, whole in every tile. -/
theorem x1_apply (c : Dev nD) (t : Fin cfg0.N) (k : Fin 1024) :
    iblk m c 1 t (ix2 0 k : S1x1024.Idx) = m ((c : Thread nD τ).loc main_arg1) (ix1 k : S1024.Idx) := by
  obtain ⟨-, ⟨h0, h1⟩, -⟩ := idx_in t
  have hV : V m c main_v11 = shapeCast S1x1024 (m ((c : Thread nD τ).loc main_arg1)) shapeCasts_S1024_S1x1024 := by
    show StableHlo.after hostOps0 _ (Proc.devRef .tc main_v11) = _
    after_results
    rfl
  have he : iblk m c 1 t (ix2 0 k : S1x1024.Idx) = V m c main_v11 (ix2 0 k : S1x1024.Idx) := by
    show V m c main_v11 (((cfg0.win 1).blk t).view.emb _) = _
    congr 1
    funext a
    apply Fin.ext
    match a with
    | ⟨0, _⟩ => show win0_1.index t (0 : Fin 2) * 1 + 1 * 0 = 0; omega
    | ⟨1, _⟩ => show win0_1.index t (1 : Fin 2) * 1024 + 1 * k.val = k.val; omega
  rw [he, hV]
  pointwise

/-- A tile's normed rows are the array's. -/
theorem norm_apply (c : Dev nD) (t : Fin cfg0.N) (r : Fin 256) (k : Fin 1024) :
    k0_pay1 (iblk m c 0 t) (iblk m c 1 t) (ix2 r k)
      = Cert.Row.normRow (fun j => m ((c : Thread nD τ).loc main_arg0) (ix2 (rowAt t r) j : S82944x1024.Idx)) (fun j => m ((c : Thread nD τ).loc main_arg1) (ix1 j : S1024.Idx)) k := by
  rw [pay1_apply]
  simp only [x0_apply, x1_apply]

/-- The step columns of the weight as the host lays them out. -/
def stepCols (w : FVec Ideal S1024x5184 .f32) : FVec Ideal S1024x512 .f32 :=
  shapeCast S1024x512 (concatenate S1024x4x128 2
    [⟨S1024x4x8, shapeCast S1024x4x8 (extractStridedSlice S1024x32 ![0, 0] (extractStridedSlice S1024x64 ![0, 5120] w slices_S1024x5184_S1024x64_0_5120) slices_S1024x64_S1024x32_0_0) shapeCasts_S1024x32_S1024x4x8⟩,
     ⟨S1024x4x8, shapeCast S1024x4x8 (extractStridedSlice S1024x32 ![0, 32] (extractStridedSlice S1024x64 ![0, 5120] w slices_S1024x5184_S1024x64_0_5120) slices_S1024x64_S1024x32_0_32) shapeCasts_S1024x32_S1024x4x8⟩,
     ⟨S1024x4x112, broadcastInDim S1024x4x112 ![] bcast_S_S1024x4x112 (constant S_ .f32 0x00000000#32)⟩] concatenates_S1024x4x8_S1024x4x8_S1024x4x112_S1024x4x128_d2) shapeCasts_S1024x4x128_S1024x512

/-- A step column of the weight. -/
theorem stepCols_apply (w : FVec Ideal S1024x5184 .f32) (k : Fin 1024) (j : Fin 512) : stepCols w (ix2 k j) = Cert.Row.stepAt (fun l => w (ix2 k l)) j := by
  pointwise [stepCols]
  rfl

/-- The weight the host hands over: its first columns as they are, then the step columns. -/
def weight (w : FVec Ideal S1024x5184 .f32) : FVec Ideal S1024x5632 .bf16 :=
  truncf .bf16 (concatenate S1024x5632 1 [⟨S1024x5120, extractStridedSlice S1024x5120 ![0, 0] w slices_S1024x5184_S1024x5120_0_0⟩, ⟨S1024x512, stepCols w⟩] concatenates_S1024x5120_S1024x512_S1024x5632_d1) bitsLt_bf16_f32

/-- The handed-over weight at a column. -/
theorem weight_apply (w : FVec Ideal S1024x5184 .f32) (k : Fin 1024) (l : Fin 5632) :
    weight w (ix2 k l) = if h : l.val < 5120 then w (ix2 k (⟨l.val, by omega⟩ : Fin 5184)) else stepCols w (ix2 k (⟨l.val - 5120, by omega⟩ : Fin 512)) := by
  pointwise [weight]

/-- The weight, whole in every tile. -/
theorem x2_apply (c : Dev nD) (t : Fin cfg0.N) (k : Fin 1024) (l : Fin 5632) :
    iblk m c 2 t (ix2 k l : S1024x5632.Idx) = weight (m ((c : Thread nD τ).loc main_arg2)) (ix2 k l : S1024x5632.Idx) := by
  obtain ⟨-, -, h0, h1⟩ := idx_in t
  have hV : V m c main_v10 = weight (m ((c : Thread nD τ).loc main_arg2)) := by
    show StableHlo.after hostOps0 _ (Proc.devRef .tc main_v10) = _
    after_results
    rfl
  rw [← hV]
  show V m c main_v10 (((cfg0.win 2).blk t).view.emb _) = _
  congr 1
  funext a
  apply Fin.ext
  match a with
  | ⟨0, _⟩ => show win0_2.index t (0 : Fin 2) * 1024 + 1 * k.val = k.val; omega
  | ⟨1, _⟩ => show win0_2.index t (1 : Fin 2) * 5632 + 1 * l.val = l.val; omega

/-- The first result: the projection's first 2048 columns. -/
def Gz (c : Dev nD) (i : S82944x2048.Idx) : Elt Ideal .bf16 :=
  Cert.Row.proj (m ((c : Thread nD τ).loc main_arg0)) (m ((c : Thread nD τ).loc main_arg1)) (m ((c : Thread nD τ).loc main_arg2)) (i 0) (⟨(i 1).val, by have h : (i 1).val < 2048 := (i 1).isLt; omega⟩ : Fin 5184)

/-- The second result: the next 3072 columns. -/
def Gx (c : Dev nD) (i : S82944x3072.Idx) : Elt Ideal .bf16 :=
  Cert.Row.proj (m ((c : Thread nD τ).loc main_arg0)) (m ((c : Thread nD τ).loc main_arg1)) (m ((c : Thread nD τ).loc main_arg2)) (i 0) (⟨2048 + (i 1).val, by have h : (i 1).val < 3072 := (i 1).isLt; omega⟩ : Fin 5184)

/-- The third result: the step columns, in the scan's order. -/
def Gdt (c : Dev nD) (i : S82944x512.Idx) : Elt Ideal .f32 :=
  Cert.Row.stepAt (Cert.Row.proj (m ((c : Thread nD τ).loc main_arg0)) (m ((c : Thread nD τ).loc main_arg1)) (m ((c : Thread nD τ).loc main_arg2)) (i 0)) (i 1)

/-- A load of the weight's columns from an offset. -/
theorem ld_weight (c : Dev nD) (t : Fin cfg0.N) {M o : ℕ} (h : ∀ a, (![0, o] : Fin 2 → ℕ) a + (![1024, M] : Fin 2 → ℕ) a ≤ S1024x5632.size a) (k : Fin 1024) (l : Fin M) (q : Fin 5632) (hq : q.val = o + l.val) :
    View.ld (iblk m c 2 t : Vec Ideal S1024x5632 .bf16) (Rect.unit (s := S1024x5632) ![0, o] ![1024, M] h) (ix2 k l : (⟨2, ![1024, M]⟩ : Shape).Idx)
      = weight (m ((c : Thread nD τ).loc main_arg2)) (ix2 k q : S1024x5632.Idx) := by
  rw [← x2_apply m c t]
  show iblk m c 2 t ((Rect.unit (s := S1024x5632) ![0, o] ![1024, M] h).emb (ix2 k l : (⟨2, ![1024, M]⟩ : Shape).Idx)) = _
  congr 1
  funext a
  apply Fin.ext
  match a with
  | ⟨0, _⟩ => show 0 + 1 * k.val = k.val; omega
  | ⟨1, _⟩ => show o + 1 * l.val = q.val; omega

/-- A tile's first product is its rows of `Gz`. -/
theorem blockz (c : Dev nD) (t : Fin cfg0.N) (r : Fin 256) (l : Fin 2048) :
    k0_pay2 (iblk m c 0 t) (iblk m c 1 t) (View.ld (iblk m c 2 t) r0_2) (ix2 r l) = Gz m c (ix2 (rowAt t r) l) := by
  rw [pay2_apply]
  unfold Gz Cert.Row.proj
  refine Finset.sum_congr (M := EReal) rfl fun k _ => ?_
  rw [norm_apply]
  congr 1
  refine (ld_weight m c t _ k l ⟨l.val, by omega⟩ (by show l.val = 0 + l.val; omega)).trans ?_
  rw [weight_apply, dif_pos (show l.val < 5120 by omega)]
  rfl

/-- A tile's second product is its rows of `Gx`. -/
theorem blockx (c : Dev nD) (t : Fin cfg0.N) (r : Fin 256) (l : Fin 3072) :
    k0_pay3 (iblk m c 0 t) (iblk m c 1 t) (View.ld (iblk m c 2 t) r0_4) (ix2 r l) = Gx m c (ix2 (rowAt t r) l) := by
  rw [pay3_apply]
  unfold Gx Cert.Row.proj
  refine Finset.sum_congr (M := EReal) rfl fun k _ => ?_
  rw [norm_apply]
  congr 1
  refine (ld_weight m c t _ k l ⟨2048 + l.val, by omega⟩ rfl).trans ?_
  rw [weight_apply, dif_pos (show 2048 + l.val < 5120 by omega)]
  rfl

/-- A tile's third product is its rows of `Gdt`. -/
theorem blockdt (c : Dev nD) (t : Fin cfg0.N) (r : Fin 256) (l : Fin 512) :
    k0_pay4 (iblk m c 0 t) (iblk m c 1 t) (View.ld (iblk m c 2 t) r0_6) (ix2 r l) = Gdt m c (ix2 (rowAt t r) l) := by
  rw [pay4_apply]
  refine Eq.trans ?_ (Cert.Row.sum_stepAt _ (fun k l => m ((c : Thread nD τ).loc main_arg2) (ix2 k l : S1024x5184.Idx)) l)
  refine Finset.sum_congr rfl fun k _ => ?_
  rw [norm_apply]
  congr 1
  refine (ld_weight m c t _ k l ⟨5120 + l.val, by omega⟩ rfl).trans ?_
  rw [weight_apply, dif_neg (show ¬ 5120 + l.val < 5120 by omega), ← stepCols_apply]
  exact congrArg (fun q => stepCols (m ((c : Thread nD τ).loc main_arg2)) (ix2 k q)) (Fin.ext (Nat.add_sub_cancel_left 5120 l.val))

/-- After the run the result array 0 is `Gz`. -/
theorem final3 (c : Dev nD) : (dats m 0 c).arrAt 3 cfg0.N = Gz m c := by
  refine (dats m 0 c).arrAt_eq_of_covers 3 _ (by decide +kernel) fun t hf y => ?_
  have d := idx_out t
  blk_simp
  rw [after0_3]
  frame_out
  have hy : ((View.whole main_v12_0).slice (win0_3.rect t)).emb y = (ix2 (rowAt t (y 0 : Fin 256)) (y 1 : Fin 2048) : S82944x2048.Idx) := by
    funext a
    apply Fin.ext
    match a with
    | ⟨0, _⟩ => show win0_3.index t (0 : Fin 2) * 256 + 1 * (y 0).val = t.val * 256 + (y 0).val; omega
    | ⟨1, _⟩ => show win0_3.index t (1 : Fin 2) * 2048 + 1 * (y 1).val = (y 1).val; omega
  have hx : (y : S256x2048.Idx) = ix2 (y 0 : Fin 256) (y 1 : Fin 2048) := funext fun a => by
    match a with
    | ⟨0, _⟩ => rfl
    | ⟨1, _⟩ => rfl
  rw [hy]
  exact (congrArg _ hx).trans (blockz m c t (y 0 : Fin 256) (y 1 : Fin 2048))

/-- After the run the result array 1 is `Gx`. -/
theorem final4 (c : Dev nD) : (dats m 0 c).arrAt 4 cfg0.N = Gx m c := by
  refine (dats m 0 c).arrAt_eq_of_covers 4 _ (by decide +kernel) fun t hf y => ?_
  have d := idx_out t
  blk_simp
  rw [after0_4]
  frame_out
  have hy : ((View.whole main_v12_1).slice (win0_4.rect t)).emb y = (ix2 (rowAt t (y 0 : Fin 256)) (y 1 : Fin 3072) : S82944x3072.Idx) := by
    funext a
    apply Fin.ext
    match a with
    | ⟨0, _⟩ => show win0_4.index t (0 : Fin 2) * 256 + 1 * (y 0).val = t.val * 256 + (y 0).val; omega
    | ⟨1, _⟩ => show win0_4.index t (1 : Fin 2) * 3072 + 1 * (y 1).val = (y 1).val; omega
  have hx : (y : S256x3072.Idx) = ix2 (y 0 : Fin 256) (y 1 : Fin 3072) := funext fun a => by
    match a with
    | ⟨0, _⟩ => rfl
    | ⟨1, _⟩ => rfl
  rw [hy]
  exact (congrArg _ hx).trans (blockx m c t (y 0 : Fin 256) (y 1 : Fin 3072))

/-- After the run the result array 2 is `Gdt`. -/
theorem final5 (c : Dev nD) : (dats m 0 c).arrAt 5 cfg0.N = Gdt m c := by
  refine (dats m 0 c).arrAt_eq_of_covers 5 _ (by decide +kernel) fun t hf y => ?_
  have d := idx_out t
  blk_simp
  rw [after0_5]
  frame_out
  have hy : ((View.whole main_v12_2).slice (win0_5.rect t)).emb y = (ix2 (rowAt t (y 0 : Fin 256)) (y 1 : Fin 512) : S82944x512.Idx) := by
    funext a
    apply Fin.ext
    match a with
    | ⟨0, _⟩ => show win0_5.index t (0 : Fin 2) * 256 + 1 * (y 0).val = t.val * 256 + (y 0).val; omega
    | ⟨1, _⟩ => show win0_5.index t (1 : Fin 2) * 512 + 1 * (y 1).val = (y 1).val; omega
  have hx : (y : S256x512.Idx) = ix2 (y 0 : Fin 256) (y 1 : Fin 512) := funext fun a => by
    match a with
    | ⟨0, _⟩ => rfl
    | ⟨1, _⟩ => rfl
  rw [hy]
  exact (congrArg _ hx).trans (blockdt m c t (y 0 : Fin 256) (y 1 : Fin 512))

end Cert.Kernel2Ideal.Proj

end
-- ==== Proof.InRef.lean ====
/- What the input projection's reference computes. -/
module

public import proofs.«01_k».proof.Proof.Gen.Reference2Ideal.Run
public import proofs.«01_k».proof.Proof.Rows

@[expose] public section

set_option maxRecDepth 16384

noncomputable section

namespace Cert.Reference2Ideal.Proj

open Cert.Reference2Ideal Cert.Reference2Ideal.Gen Idealize.ShloMosaic Idealize.ShloMosaic.Tactic

/-- The reference's projection: the normed rows times the weight. -/
def all (x : FVec Ideal S82944x1024 .f32) (g : FVec Ideal S1024 .f32) (w : FVec Ideal S1024x5184 .f32) : FVec Ideal S82944x5184 .f32 :=
  Host.dotGeneral dot_S82944x1024_S1024x5184_S82944x5184_1_0_0_1_n_n none (mulf (mulf x (broadcastInDim S82944x1024 ![0, 1] bcast_S82944x1_S82944x1024_0_1 (Host.rsqrt (addf (Host.divf (broadcastInDim S82944x1 ![0] bcast_S82944_S82944x1_0 (Host.reduceAdd (mulf x x) (constant S_ .f32 0x00000000#32) reducesTo_S82944x1024_S82944_d1 h_S_)) (broadcastInDim S82944x1 ![] bcast_S_S82944x1 (constant S_ .f32 0x44800000#32))) (broadcastInDim S82944x1 ![] bcast_S_S82944x1 (constant S_ .f32 0x3727C5AC#32)))))) (broadcastInDim S82944x1024 ![0, 1] bcast_S1x1024_S82944x1024_0_1 (broadcastInDim S1x1024 ![1] bcast_S1024_S1x1024_1 g))) w

/-- The reference's projection at a row and column. -/
theorem all_apply (x : FVec Ideal S82944x1024 .f32) (g : FVec Ideal S1024 .f32) (w : FVec Ideal S1024x5184 .f32) (r : Fin 82944) (l : Fin 5184) :
    all x g w (ix2 r l) = Cert.Row.proj x g w r l := by
  pointwise [all]
  rfl

/-- The reference's first result at a row and column. -/
theorem z_apply (p : FVec Ideal S82944x5184 .f32) (r : Fin 82944) (l : Fin 2048) :
    truncf .bf16 (extractStridedSlice S82944x2048 ![0, 0] p slices_S82944x5184_S82944x2048_0_0) bitsLt_bf16_f32 (ix2 r l : S82944x2048.Idx) = p (ix2 r (⟨l.val, by omega⟩ : Fin 5184)) := by
  pointwise

/-- The reference's second result at a row and column. -/
theorem x_apply (p : FVec Ideal S82944x5184 .f32) (r : Fin 82944) (l : Fin 3072) :
    truncf .bf16 (extractStridedSlice S82944x3072 ![0, 2048] p slices_S82944x5184_S82944x3072_0_2048) bitsLt_bf16_f32 (ix2 r l : S82944x3072.Idx) = p (ix2 r (⟨2048 + l.val, by omega⟩ : Fin 5184)) := by
  pointwise

/-- The reference's third result at a row and column. -/
theorem dt_apply (p : FVec Ideal S82944x5184 .f32) (r : Fin 82944) (j : Fin 512) :
    shapeCast S82944x512 (pad S82944x4x128 ![0, 0, 0] ![0, 0, 112] ![0, 0, 0] (concatenate S82944x4x16 2 [⟨S82944x4x8, (shapeCast S82944x4x8 (extractStridedSlice S82944x32 ![0, 0] (extractStridedSlice S82944x64 ![0, 5120] p slices_S82944x5184_S82944x64_0_5120) slices_S82944x64_S82944x32_0_0) shapeCasts_S82944x32_S82944x4x8)⟩, ⟨S82944x4x8, (shapeCast S82944x4x8 (extractStridedSlice S82944x32 ![0, 32] (extractStridedSlice S82944x64 ![0, 5120] p slices_S82944x5184_S82944x64_0_5120) slices_S82944x64_S82944x32_0_32) shapeCasts_S82944x32_S82944x4x8)⟩] concatenates_S82944x4x8_S82944x4x8_S82944x4x16_d2) (sitofp .f32 (constantI S_ 32 0#32)) pads_S82944x4x16_S82944x4x128_000_000_01120 h_S_) shapeCasts_S82944x4x128_S82944x512 (ix2 r j : S82944x512.Idx)
      = Cert.Row.stepAt (fun l => p (ix2 r l)) j := by
  pointwise
  exact Cert.Row.stepAt_pad (fun l => p (ix2 r l)) j _ (by show ((((0#32 : BitVec 32).toInt : ℝ) : EReal)) = 0; simp)

end Cert.Reference2Ideal.Proj

end
-- ==== Proof.OutKernel.lean ====
/- What the scan layer's output projection leaves in its result. -/
module

public import proofs.«01_k».proof.Proof.Gen.Kernel3Ideal.Value
public import proofs.«01_k».proof.Proof.Rows
public import Idealize.ShloMosaic.Lib.Pointwise
public import Idealize.ShloMosaic.Lib.Pipeline.ValueKit

@[expose] public section

set_option maxRecDepth 16384

noncomputable section

namespace Cert.Kernel3Ideal.Proj

open Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ)

/-- A tile's result: the product of its rows with the weight, plus the residual's rows. -/
theorem pay_apply (x : Vec Ideal S512x2048 .bf16) (w : Vec Ideal S2048x1024 .bf16) (h : Vec Ideal S512x1024 .f32) (r : Fin 512) (e : Fin 1024) :
    k0_pay1 x w h (ix2 r e) = (∑ k, x (ix2 r k) * w (ix2 k e)) + h (ix2 r e) := by
  pointwise [k0_pay1]

/-- The result array: the residual plus the product of its row with the weight. -/
def G (c : Dev nD) (i : S82944x1024.Idx) : Elt Ideal .f32 :=
  Cert.Row.residual (m ((c : Thread nD τ).loc main_arg0)) (m ((c : Thread nD τ).loc main_arg1)) (m ((c : Thread nD τ).loc main_arg2)) (i 0) (i 1)

/-- The tile index of each window: the row tiles follow the grid point, the weight stays. -/
theorem idx : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0) :=
  (by decide +kernel : ∀ t : Fin grid0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0))

/-- The array row of row `r` of grid point `t`'s tile. -/
def rowAt (t : Fin cfg0.N) (r : Fin 512) : Fin 82944 :=
  ⟨t.val * 512 + r.val, by have := lt_of_lt_of_eq t.isLt Gen.N_0; have := r.isLt; omega⟩

/-- The input rows of a tile. -/
theorem x0_apply (c : Dev nD) (t : Fin cfg0.N) (r : Fin 512) (k : Fin 2048) :
    iblk m c 0 t (ix2 r k : S512x2048.Idx) = m ((c : Thread nD τ).loc main_arg0) (ix2 (rowAt t r) k : S82944x2048.Idx) := by
  obtain ⟨⟨h0, h1⟩, -⟩ := idx t
  rw [← V_main_arg0 m c]
  show V m c main_arg0 (((cfg0.win 0).blk t).view.emb _) = _
  congr 1
  funext a
  apply Fin.ext
  match a with
  | ⟨0, _⟩ => show win0_0.index t (0 : Fin 2) * 512 + 1 * r.val = t.val * 512 + r.val; omega
  | ⟨1, _⟩ => show win0_0.index t (1 : Fin 2) * 2048 + 1 * k.val = k.val; omega

/-- The weight, whole in every tile. -/
theorem x1_apply (c : Dev nD) (t : Fin cfg0.N) (k : Fin 2048) (l : Fin 1024) :
    iblk m c 1 t (ix2 k l : S2048x1024.Idx) = m ((c : Thread nD τ).loc main_arg1) (ix2 k l : S2048x1024.Idx) := by
  obtain ⟨-, ⟨h0, h1⟩, -⟩ := idx t
  have hV : V m c main_v0 = truncf (F := Ideal) .bf16 (m ((c : Thread nD τ).loc main_arg1)) bitsLt_bf16_f32 := by
    show StableHlo.after hostOps0 _ (Proc.devRef .tc main_v0) = _
    after_results
  have he : iblk m c 1 t (ix2 k l : S2048x1024.Idx) = V m c main_v0 (ix2 k l : S2048x1024.Idx) := by
    show V m c main_v0 (((cfg0.win 1).blk t).view.emb _) = _
    congr 1
    funext a
    apply Fin.ext
    match a with
    | ⟨0, _⟩ => show win0_1.index t (0 : Fin 2) * 2048 + 1 * k.val = k.val; omega
    | ⟨1, _⟩ => show win0_1.index t (1 : Fin 2) * 1024 + 1 * l.val = l.val; omega
  rw [he, hV]
  rfl

/-- The residual's rows of a tile. -/
theorem x2_apply (c : Dev nD) (t : Fin cfg0.N) (r : Fin 512) (l : Fin 1024) :
    iblk m c 2 t (ix2 r l : S512x1024.Idx) = m ((c : Thread nD τ).loc main_arg2) (ix2 (rowAt t r) l : S82944x1024.Idx) := by
  obtain ⟨-, -, ⟨h0, h1⟩, -⟩ := idx t
  rw [← V_main_arg2 m c]
  show V m c main_arg2 (((cfg0.win 2).blk t).view.emb _) = _
  congr 1
  funext a
  apply Fin.ext
  match a with
  | ⟨0, _⟩ => show win0_2.index t (0 : Fin 2) * 512 + 1 * r.val = t.val * 512 + r.val; omega
  | ⟨1, _⟩ => show win0_2.index t (1 : Fin 2) * 1024 + 1 * l.val = l.val; omega

/-- A tile's result is its rows of `G`. -/
theorem block (c : Dev nD) (t : Fin cfg0.N) (r : Fin 512) (e : Fin 1024) :
    k0_pay1 (iblk m c 0 t) (iblk m c 1 t) (iblk m c 2 t) (ix2 r e) = G m c (ix2 (rowAt t r) e) := by
  rw [pay_apply, x2_apply, add_comm]
  simp only [x0_apply, x1_apply]
  rfl

/-- After the run the result array is `G`. -/
theorem final (c : Dev nD) : (dats m 0 c).arrAt 3 cfg0.N = G m c := by
  refine (dats m 0 c).arrAt_eq_of_covers 3 _ (by decide +kernel) fun t hf y => ?_
  obtain ⟨-, -, -, d0, d1⟩ := idx t
  blk_simp
  rw [after0_3]
  frame_out
  have hy : ((View.whole main_v1).slice (win0_3.rect t)).emb y = (ix2 (rowAt t (y 0 : Fin 512)) (y 1 : Fin 1024) : S82944x1024.Idx) := by
    funext a
    apply Fin.ext
    match a with
    | ⟨0, _⟩ => show win0_3.index t (0 : Fin 2) * 512 + 1 * (y 0).val = t.val * 512 + (y 0).val; omega
    | ⟨1, _⟩ => show win0_3.index t (1 : Fin 2) * 1024 + 1 * (y 1).val = (y 1).val; omega
  have hx : (y : S512x1024.Idx) = ix2 (y 0 : Fin 512) (y 1 : Fin 1024) := funext fun a => by
    match a with
    | ⟨0, _⟩ => rfl
    | ⟨1, _⟩ => rfl
  rw [hy]
  exact (congrArg _ hx).trans (block m c t (y 0 : Fin 512) (y 1 : Fin 1024))

end Cert.Kernel3Ideal.Proj

end
-- ==== Proof.OutRef.lean ====
/- What the two output projections' references compute. -/
module

public import proofs.«01_k».proof.Proof.Gen.Reference3Ideal.Run
public import proofs.«01_k».proof.Proof.Gen.Reference5Ideal.Run
public import proofs.«01_k».proof.Proof.Rows

@[expose] public section

set_option maxRecDepth 16384

noncomputable section

namespace Cert.Reference3Ideal.Proj

open Cert.Reference3Ideal Cert.Reference3Ideal.Gen Idealize.ShloMosaic Idealize.ShloMosaic.Tactic

/-- The scan layer's output projection in the reference, at a row and lane. -/
theorem ref_apply (x : FVec Ideal S82944x2048 .bf16) (w : FVec Ideal S2048x1024 .f32) (h : FVec Ideal S82944x1024 .f32) (r : Fin 82944) (l : Fin 1024) :
    addf h (Host.dotGeneral dot_S82944x2048_S2048x1024_S82944x1024_1_0_0_1_n_n none (extf .f32 x bitsLt_bf16_f32) w) (ix2 r l : S82944x1024.Idx)
      = Cert.Row.residual x w h r l := by
  pointwise
  rfl

end Cert.Reference3Ideal.Proj

namespace Cert.Reference5Ideal.Proj

open Cert.Reference5Ideal Cert.Reference5Ideal.Gen Idealize.ShloMosaic Idealize.ShloMosaic.Tactic

/-- The attention layer's output projection in the reference, at a row and lane. -/
theorem ref_apply (x : FVec Ideal S82944x1024 .bf16) (w : FVec Ideal S1024x1024 .f32) (h : FVec Ideal S82944x1024 .f32) (r : Fin 82944) (l : Fin 1024) :
    addf h (Host.dotGeneral dot_S82944x1024_S1024x1024_S82944x1024_1_0_0_1_n_n none (extf .f32 x bitsLt_bf16_f32) w) (ix2 r l : S82944x1024.Idx)
      = Cert.Row.residual x w h r l := by
  pointwise
  rfl

end Cert.Reference5Ideal.Proj

end
-- ==== Proof.WoKernel.lean ====
/- What the attention layer's output projection leaves in its result. -/
module

public import proofs.«01_k».proof.Proof.Gen.Kernel5Ideal.Value
public import proofs.«01_k».proof.Proof.Rows
public import Idealize.ShloMosaic.Lib.Pointwise
public import Idealize.ShloMosaic.Lib.Pipeline.ValueKit

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic Idealize.SL.Sem

variable (m : (ℓ : Loc nD τ sig) → Buf (Elt Ideal) ℓ)

/-- A tile's result: the product of its rows with the weight, plus the residual's rows. -/
theorem pay_apply (x : Vec Ideal S512x1024 .bf16) (w : Vec Ideal S1024x1024 .bf16) (h : Vec Ideal S512x1024 .f32) (r : Fin 512) (e : Fin 1024) :
    k0_pay1 x w h (ix2 r e) = (∑ k, x (ix2 r k) * w (ix2 k e)) + h (ix2 r e) := by
  pointwise [k0_pay1]

/-- The result array: the residual plus the product of its row with the weight. -/
def G (c : Dev nD) (i : S82944x1024.Idx) : Elt Ideal .f32 :=
  Cert.Row.residual (m ((c : Thread nD τ).loc main_arg0)) (m ((c : Thread nD τ).loc main_arg1)) (m ((c : Thread nD τ).loc main_arg2)) (i 0) (i 1)

/-- The tile index of each window: the row tiles follow the grid point, the weight stays. -/
theorem idx : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0) :=
  (by decide +kernel : ∀ t : Fin grid0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0))

/-- The array row of row `r` of grid point `t`'s tile. -/
def rowAt (t : Fin cfg0.N) (r : Fin 512) : Fin 82944 :=
  ⟨t.val * 512 + r.val, by have := lt_of_lt_of_eq t.isLt Gen.N_0; have := r.isLt; omega⟩

/-- The input rows of a tile. -/
theorem x0_apply (c : Dev nD) (t : Fin cfg0.N) (r : Fin 512) (k : Fin 1024) :
    iblk m c 0 t (ix2 r k : S512x1024.Idx) = m ((c : Thread nD τ).loc main_arg0) (ix2 (rowAt t r) k : S82944x1024.Idx) := by
  obtain ⟨⟨h0, h1⟩, -⟩ := idx t
  rw [← V_main_arg0 m c]
  show V m c main_arg0 (((cfg0.win 0).blk t).view.emb _) = _
  congr 1
  funext a
  apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

/-- The weight, whole in every tile. -/
theorem x1_apply (c : Dev nD) (t : Fin cfg0.N) (k : Fin 1024) (l : Fin 1024) :
    iblk m c 1 t (ix2 k l : S1024x1024.Idx) = m ((c : Thread nD τ).loc main_arg1) (ix2 k l : S1024x1024.Idx) := by
  obtain ⟨-, ⟨h0, h1⟩, -⟩ := idx t
  have hV : V m c main_v0 = truncf (F := Ideal) .bf16 (m ((c : Thread nD τ).loc main_arg1)) bitsLt_bf16_f32 := by
    show StableHlo.after hostOps0 _ (Proc.devRef .tc main_v0) = _
    after_results
  have he : iblk m c 1 t (ix2 k l : S1024x1024.Idx) = V m c main_v0 (ix2 k l : S1024x1024.Idx) := by
    show V m c main_v0 (((cfg0.win 1).blk t).view.emb _) = _
    congr 1
    funext a
    apply Fin.ext
    match a with
    | ⟨0, _⟩ => show win0_1.index t (0 : Fin 2) * 1024 + 1 * k.val = k.val; omega
    | ⟨1, _⟩ => show win0_1.index t (1 : Fin 2) * 1024 + 1 * l.val = l.val; omega
  rw [he, hV]
  rfl

/-- The residual's rows of a tile. -/
theorem x2_apply (c : Dev nD) (t : Fin cfg0.N) (r : Fin 512) (l : Fin 1024) :
    iblk m c 2 t (ix2 r l : S512x1024.Idx) = m ((c : Thread nD τ).loc main_arg2) (ix2 (rowAt t r) l : S82944x1024.Idx) := by
  obtain ⟨-, -, ⟨h0, h1⟩, -⟩ := idx t
  rw [← V_main_arg2 m c]
  show V m c main_arg2 (((cfg0.win 2).blk t).view.emb _) = _
  congr 1
  funext a
  apply Fin.ext
  match a with
  | ⟨0, _⟩ => show win0_2.index t (0 : Fin 2) * 512 + 1 * r.val = t.val * 512 + r.val; omega
  | ⟨1, _⟩ => show win0_2.index t (1 : Fin 2) * 1024 + 1 * l.val = l.val; omega

/-- A tile's result is its rows of `G`. -/
theorem block (c : Dev nD) (t : Fin cfg0.N) (r : Fin 512) (e : Fin 1024) :
    k0_pay1 (iblk m c 0 t) (iblk m c 1 t) (iblk m c 2 t) (ix2 r e) = G m c (ix2 (rowAt t r) e) := by
  rw [pay_apply, x2_apply, add_comm]
  simp only [x0_apply, x1_apply]
  rfl

/-- After the run the result array is `G`. -/
theorem final (c : Dev nD) : (dats m 0 c).arrAt 3 cfg0.N = G m c := by
  refine (dats m 0 c).arrAt_eq_of_covers 3 _ (by decide +kernel) fun t hf y => ?_
  obtain ⟨-, -, -, d0, d1⟩ := idx t
  blk_simp
  rw [after0_3]
  frame_out
  have hy : ((View.whole main_v1).slice (win0_3.rect t)).emb y = (ix2 (rowAt t (y 0 : Fin 512)) (y 1 : Fin 1024) : S82944x1024.Idx) := by
    funext a
    apply Fin.ext
    match a with
    | ⟨0, _⟩ => show win0_3.index t (0 : Fin 2) * 512 + 1 * (y 0).val = t.val * 512 + (y 0).val; omega
    | ⟨1, _⟩ => show win0_3.index t (1 : Fin 2) * 1024 + 1 * (y 1).val = (y 1).val; omega
  have hx : (y : S512x1024.Idx) = ix2 (y 0 : Fin 512) (y 1 : Fin 1024) := funext fun a => by
    match a with
    | ⟨0, _⟩ => rfl
    | ⟨1, _⟩ => rfl
  rw [hy]
  exact (congrArg _ hx).trans (block m c t (y 0 : Fin 512) (y 1 : Fin 1024))

end Cert.Kernel5Ideal.Proj

end
-- ==== Proof.QkvKernel.lean ====
/- What the attention layer's query, key and value projections leave in their results. -/
module

public import proofs.«01_k».proof.Proof.Gen.Kernel4Ideal.Value
public import proofs.«01_k».proof.Proof.Rows
public import Idealize.ShloMosaic.Lib.Pointwise
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe Idealize.ShloMosaic.Tactic Idealize.SL.Sem

variable (m : (ℓ : Loc nD τ sig) → Buf (Elt Ideal) ℓ)

/-- The sequence length, guarded against zero as the host's remainder guards it. -/
def period : IVec S_ 32 := select (cmpi .eq (constantI S_ 32 2064#32) (constantI S_ 32 0#32)) (constantI S_ 32 1#32) (constantI S_ 32 2064#32)

/-- The host's remainder of each row by the sequence length, before its sign is set. -/
def rem0 : IVec S82944 32 := Host.remsi (iotaInDim S82944 32 0) (broadcastInDim S82944 ![] bcast_S_S82944 period)

/-- Each row's position in its sequence. -/
def pos : IVec S82944 32 :=
  select (andi (cmpi .ne (cmpi .slt rem0 (broadcastInDim S82944 ![] bcast_S_S82944 (constantI S_ 32 0#32))) (broadcastInDim S82944 ![] bcast_S_S82944 (cmpi .slt period (constantI S_ 32 0#32))))
      (cmpi .ne rem0 (broadcastInDim S82944 ![] bcast_S_S82944 (constantI S_ 32 0#32))))
    (addi rem0 (broadcastInDim S82944 ![] bcast_S_S82944 period)) rem0

/-- The angles, by row and frequency. -/
def ang : FVec Ideal S82944x32 .f32 :=
  mulf (broadcastInDim S82944x32 ![0, 1] bcast_S82944x1_S82944x32_0_1 (broadcastInDim S82944x1 ![0] bcast_S82944_S82944x1_0 (sitofp .f32 pos)))
    (broadcastInDim S82944x32 ![0, 1] bcast_S1x32_S82944x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32)) (mulf (broadcastInDim S32 ![] bcast_S_S32 (constant S_ .f32 0x40000000#32)) (sitofp .f32 (iotaInDim S32 32 0))))
            (broadcastInDim S32 ![] bcast_S_S32 (constant S_ .f32 0x42800000#32)))))))

/-- Four arrays of 32 lanes side by side. -/
def four (a b c d : FVec Ideal S82944x32 .f32) : FVec Ideal S82944x128 .f32 :=
  concatenate S82944x128 1 [⟨S82944x32, a⟩, ⟨S82944x32, b⟩, ⟨S82944x32, c⟩, ⟨S82944x32, d⟩] concatenates_S82944x32_S82944x32_S82944x32_S82944x32_S82944x128_d1

/-- Two arrays taken in turn, at a lane. -/
theorem four_apply (a b : FVec Ideal S82944x32 .f32) (r : Fin 82944) (l : Fin 128) :
    four a b a b (ix2 r l) = if l.val % 64 < 32 then a (ix2 r (⟨l.val % 32, by omega⟩ : Fin 32)) else b (ix2 r (⟨l.val % 32, by omega⟩ : Fin 32)) := by
  pointwise [four]
  exact Cert.Row.turns4 (fun i => a (ix2 r i)) (fun i => b (ix2 r i)) l

/-- A row's position. -/
theorem pos_apply (r : Fin 82944) : pos (ix1 r) = BitVec.ofNat 32 (r.val % 2064) := by
  pointwise [pos, rem0, period]
  rw [show Scalar.select (IntOp.cmpi CmpIPredicate.eq (2064#32) 0#32) 1#32 2064#32 = 2064#32 by decide]
  rw [Cert.Row.pos_row r.val r.isLt _ (Cert.Row.srem_row r.val r.isLt), Cert.Row.srem_row r.val r.isLt]

/-- An angle. -/
theorem ang_apply (r : Fin 82944) (d : Fin 32) : ang (ix2 r d) = Cert.Row.angle (r.val % 2064) d := by
  pointwise [ang]
  rw [pos_apply]
  rfl

/-- The cosine table the host hands over. -/
def cosT : FVec Ideal S82944x128 .f32 := four (Host.cos ang) (Host.cos ang) (Host.cos ang) (Host.cos ang)

/-- The sine table: the first half of every head negated. -/
def sinT : FVec Ideal S82944x128 .f32 := four (Host.negf (Host.sin ang)) (Host.sin ang) (Host.negf (Host.sin ang)) (Host.sin ang)

/-- The cosine table at a lane. -/
theorem cosT_apply (r : Fin 82944) (l : Fin 128) : cosT (ix2 r l) = Ideal.cos (Cert.Row.angle (r.val % 2064) ⟨l.val % 32, by omega⟩) := by
  unfold cosT
  rw [four_apply, ite_self, ← ang_apply]
  rfl

/-- The sine table at a lane. -/
theorem sinT_apply (r : Fin 82944) (l : Fin 128) :
    sinT (ix2 r l) = if l.val % 64 < 32 then - Ideal.sin (Cert.Row.angle (r.val % 2064) ⟨l.val % 32, by omega⟩) else Ideal.sin (Cert.Row.angle (r.val % 2064) ⟨l.val % 32, by omega⟩) := by
  unfold sinT
  rw [four_apply, ← ang_apply]
  rfl

/-- A tile's rows normed. -/
theorem pay3_apply (x : Vec Ideal S512x1024 .f32) (g : Vec Ideal S1x1024 .f32) (r : Fin 512) (k : Fin 1024) :
    k0_pay3 x g (ix2 r k) = Cert.Row.normRow (fun j => x (ix2 r j)) (fun j => g (ix2 0 j)) k := by
  pointwise [k0_pay3]
  rfl

/-- Rows times a weight, each lane rotated with its partner by the tables. -/
def turned (x : Vec Ideal S512x1024 .bf16) (w : Vec Ideal S1024x1024 .bf16) (a b : Vec Ideal S512x128 .f32) (r : Fin 512) (l : Fin 1024) : EReal :=
  (∑ k, x (ix2 r k) * w (ix2 k l)) * a (ix2 r (⟨l.val % 128, by omega⟩ : Fin 128))
    + Scalar.select (IntOp.cmpi .eq (IntOp.andi (BitVec.ofNat 32 l.val) 32#32) 0#32)
        (∑ k, x (ix2 r k) * w (ix2 k (⟨(l.val + 1024 - 992) % 1024, by omega⟩ : Fin 1024)))
        (∑ k, x (ix2 r k) * w (ix2 k (⟨(l.val + 1024 - 32) % 1024, by omega⟩ : Fin 1024)))
      * b (ix2 r (⟨l.val % 128, by omega⟩ : Fin 128))

/-- A tile's keys. -/
theorem pay1_apply (x : Vec Ideal S512x1024 .bf16) (w : Vec Ideal S1024x1024 .bf16) (a b : Vec Ideal S512x128 .f32) (r : Fin 512) (l : Fin 1024) :
    k0_pay1 x w a b (ix2 r l) = turned x w a b r l := by
  pointwise [k0_pay1]
  have ea := Cert.Row.rep8 (fun i => a (ix2 r i)) l
  have eb := Cert.Row.rep8 (fun i => b (ix2 r i)) l
  rw [ea, eb]
  rfl

/-- A tile's queries. -/
theorem pay4_apply (x : Vec Ideal S512x1024 .f32) (g : Vec Ideal S1x1024 .f32) (w : Vec Ideal S1024x1024 .bf16) (a b : Vec Ideal S512x128 .f32) (r : Fin 512) (l : Fin 1024) :
    k0_pay4 x g w a b (ix2 r l) = turned (k0_pay3 x g) w a b r l * Ideal.ofBits .f32 0x3E000000#32 := by
  pointwise [k0_pay4]
  have ea := Cert.Row.rep8 (fun i => a (ix2 r i)) l
  have eb := Cert.Row.rep8 (fun i => b (ix2 r i)) l
  rw [ea, eb]
  rfl

/-- A tile's values. -/
theorem pay2_apply (x : Vec Ideal S512x1024 .bf16) (w : Vec Ideal S1024x1024 .bf16) (r : Fin 512) (l : Fin 1024) :
    k0_pay2 x w (ix2 r l) = ∑ k, x (ix2 r k) * w (ix2 k l) := by
  pointwise [k0_pay2]

/-- The host operations before the tables are laid out, then `n` of those that lay them out. -/
def before (n : ℕ) : List (HloOp τ sig (Elt Ideal)) := hostOps0 ++ (hostOps0_1 ++ hostOps0_2.take n)

/-- The cosines by row and frequency, as the host computes them. -/
theorem host_cos (W : Valuation τ sig (Elt Ideal)) : StableHlo.after (before 24) W (Proc.devRef .tc main_v20) = Host.cos ang := by
  simp only [before, List.take_succ_cons, List.take_zero, List.cons_append, List.nil_append]
  after_results
  rfl

/-- The negated sines. -/
theorem host_negsin (W : Valuation τ sig (Elt Ideal)) : StableHlo.after (before 26) W (Proc.devRef .tc main_v23) = Host.negf (Host.sin ang) := by
  simp only [before, List.take_succ_cons, List.take_zero, List.cons_append, List.nil_append]
  after_results
  rfl

/-- The sines. -/
theorem host_sin (W : Valuation τ sig (Elt Ideal)) : StableHlo.after (before 26) W (Proc.devRef .tc main_v21) = Host.sin ang := by
  simp only [before, List.take_succ_cons, List.take_zero, List.cons_append, List.nil_append]
  after_results
  rfl

/-- The table of cosines the region finds. -/
theorem host_cosT (c : Dev nD) : V m c main_v22 = cosT := by
  show StableHlo.after (List.flatten [hostOps0, hostOps0_1, hostOps0_2]) _ (Proc.devRef .tc main_v22) = _
  simp only [List.flatten_cons, List.flatten_nil, List.append_nil, List.cons_append, List.nil_append]
  after_results
  dsimp only [Matrix.cons_val]
  exact congrArg (fun z => four z z z z) (host_cos _)

/-- The table of sines the region finds. -/
theorem host_sinT (c : Dev nD) : V m c main_v24 = sinT := by
  show StableHlo.after (List.flatten [hostOps0, hostOps0_1, hostOps0_2]) _ (Proc.devRef .tc main_v24) = _
  simp only [List.flatten_cons, List.flatten_nil, List.append_nil, List.cons_append, List.nil_append]
  after_results
  dsimp only [Matrix.cons_val]
  exact congrArg₂ (fun z y => four z y z y) (host_negsin _) (host_sin _)

/-- The tile index of each input window: the row tiles follow the grid point, the gain and the weight stay. -/
theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0))

/-- The tile index of each output window: the row tiles follow the grid point. -/
theorem idx_out : ∀ t : Fin cfg0.N, (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0))

/-- The array row of row `r` of grid point `t`'s tile. -/
def rowAt (t : Fin cfg0.N) (r : Fin 512) : Fin 82944 :=
  ⟨t.val * 512 + r.val, by have := lt_of_lt_of_eq t.isLt Gen.N_0; have := r.isLt; omega⟩

/-- The input rows of a tile. -/
theorem x0_apply (c : Dev nD) (t : Fin cfg0.N) (r : Fin 512) (k : Fin 1024) :
    iblk m c 0 t (ix2 r k : S512x1024.Idx) = m ((c : Thread nD τ).loc main_arg0) (ix2 (rowAt t r) k : S82944x1024.Idx) := by
  obtain ⟨⟨h0, h1⟩, -⟩ := idx_in t
  rw [← V_main_arg0 m c]
  show V m c main_arg0 (((cfg0.win 0).blk t).view.emb _) = _
  congr 1
  funext a
  apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

/-- The gain, whole in every tile. -/
theorem x1_apply (c : Dev nD) (t : Fin cfg0.N) (k : Fin 1024) :
    iblk m c 1 t (ix2 0 k : S1x1024.Idx) = m ((c : Thread nD τ).loc main_arg1) (ix1 k : S1024.Idx) := by
  obtain ⟨-, ⟨h0, h1⟩, -⟩ := idx_in t
  have hV : V m c main_v25 = shapeCast S1x1024 (m ((c : Thread nD τ).loc main_arg1)) shapeCasts_S1024_S1x1024 := by
    show StableHlo.after (List.flatten [hostOps0, hostOps0_1, hostOps0_2]) _ (Proc.devRef .tc main_v25) = _
    simp only [List.flatten_cons, List.flatten_nil, List.append_nil, List.cons_append, List.nil_append]
    after_results
    rfl
  have he : iblk m c 1 t (ix2 0 k : S1x1024.Idx) = V m c main_v25 (ix2 0 k : S1x1024.Idx) := by
    show V m c main_v25 (((cfg0.win 1).blk t).view.emb _) = _
    congr 1
    funext a
    apply Fin.ext
    match a with
    | ⟨0, _⟩ => show win0_1.index t (0 : Fin 2) * 1 + 1 * 0 = 0; omega
    | ⟨1, _⟩ => show win0_1.index t (1 : Fin 2) * 1024 + 1 * k.val = k.val; omega
  rw [he, hV]
  pointwise

/-- A tile's normed rows are the array's. -/
theorem norm_apply (c : Dev nD) (t : Fin cfg0.N) (r : Fin 512) (k : Fin 1024) :
    k0_pay3 (iblk m c 0 t) (iblk m c 1 t) (ix2 r k)
      = Cert.Row.normRow (fun j => m ((c : Thread nD τ).loc main_arg0) (ix2 (rowAt t r) j : S82944x1024.Idx)) (fun j => m ((c : Thread nD τ).loc main_arg1) (ix1 j : S1024.Idx)) k := by
  rw [pay3_apply]
  simp only [x0_apply, x1_apply]

/-- The weight, whole in every tile. -/
theorem x2_apply (c : Dev nD) (t : Fin cfg0.N) (k : Fin 1024) (l : Fin 3072) :
    iblk m c 2 t (ix2 k l : S1024x3072.Idx) = m ((c : Thread nD τ).loc main_arg2) (ix2 k l : S1024x3072.Idx) := by
  obtain ⟨-, -, ⟨h0, h1⟩, -⟩ := idx_in t
  have hV : V m c main_v0 = (truncf .bf16 (m ((c : Thread nD τ).loc main_arg2) : FVec Ideal S1024x3072 .f32) bitsLt_bf16_f32 : FVec Ideal S1024x3072 .bf16) := by
    show StableHlo.after (List.flatten [hostOps0, hostOps0_1, hostOps0_2]) _ (Proc.devRef .tc main_v0) = _
    simp only [List.flatten_cons, List.flatten_nil, List.append_nil, List.cons_append, List.nil_append]
    after_results
  have he : iblk m c 2 t (ix2 k l : S1024x3072.Idx) = V m c main_v0 (ix2 k l : S1024x3072.Idx) := by
    show V m c main_v0 (((cfg0.win 2).blk t).view.emb _) = _
    congr 1
    funext a
    apply Fin.ext
    match a with
    | ⟨0, _⟩ => show win0_2.index t (0 : Fin 2) * 1024 + 1 * k.val = k.val; omega
    | ⟨1, _⟩ => show win0_2.index t (1 : Fin 2) * 3072 + 1 * l.val = l.val; omega
  rw [he, hV]
  rfl

/-- The rows of the cosines of a tile. -/
theorem x3_apply (c : Dev nD) (t : Fin cfg0.N) (r : Fin 512) (l : Fin 128) :
    iblk m c 3 t (ix2 r l : S512x128.Idx) = cosT (ix2 (rowAt t r) l : S82944x128.Idx) := by
  obtain ⟨-, -, -, ⟨h0, h1⟩, -⟩ := idx_in t
  rw [← host_cosT m c]
  show V m c main_v22 (((cfg0.win 3).blk t).view.emb _) = _
  congr 1
  funext a
  apply Fin.ext
  match a with
  | ⟨0, _⟩ => show win0_3.index t (0 : Fin 2) * 512 + 1 * r.val = t.val * 512 + r.val; omega
  | ⟨1, _⟩ => show win0_3.index t (1 : Fin 2) * 128 + 1 * l.val = l.val; omega

/-- The rows of the sines of a tile. -/
theorem x4_apply (c : Dev nD) (t : Fin cfg0.N) (r : Fin 512) (l : Fin 128) :
    iblk m c 4 t (ix2 r l : S512x128.Idx) = sinT (ix2 (rowAt t r) l : S82944x128.Idx) := by
  obtain ⟨-, -, -, -, h0, h1⟩ := idx_in t
  rw [← host_sinT m c]
  show V m c main_v24 (((cfg0.win 4).blk t).view.emb _) = _
  congr 1
  funext a
  apply Fin.ext
  match a with
  | ⟨0, _⟩ => show win0_4.index t (0 : Fin 2) * 512 + 1 * r.val = t.val * 512 + r.val; omega
  | ⟨1, _⟩ => show win0_4.index t (1 : Fin 2) * 128 + 1 * l.val = l.val; omega

/-- A load of 1024 of the weight's columns from an offset. -/
theorem ld_weight (c : Dev nD) (t : Fin cfg0.N) {o : ℕ} (h : ∀ a, (![0, o] : Fin 2 → ℕ) a + (![1024, 1024] : Fin 2 → ℕ) a ≤ S1024x3072.size a) (k l : Fin 1024) (q : Fin 3072) (hq : q.val = o + l.val) :
    View.ld (iblk m c 2 t : Vec Ideal S1024x3072 .bf16) (Rect.unit (s := S1024x3072) ![0, o] ![1024, 1024] h) (ix2 k l : S1024x1024.Idx)
      = m ((c : Thread nD τ).loc main_arg2) (ix2 k q : S1024x3072.Idx) := by
  rw [← x2_apply m c t]
  show iblk m c 2 t ((Rect.unit (s := S1024x3072) ![0, o] ![1024, 1024] h).emb (ix2 k l : S1024x1024.Idx)) = _
  congr 1
  funext a
  apply Fin.ext
  match a with
  | ⟨0, _⟩ => show 0 + 1 * k.val = k.val; omega
  | ⟨1, _⟩ => show o + 1 * l.val = q.val; omega

/-- The projection's 1024 columns from an offset, in a row. -/
def cols (c : Dev nD) (o : ℕ) (ho : o ≤ 2048) (r : Fin 82944) (l : Fin 1024) : EReal :=
  Cert.Row.proj (m ((c : Thread nD τ).loc main_arg0)) (m ((c : Thread nD τ).loc main_arg1)) (m ((c : Thread nD τ).loc main_arg2)) r (⟨o + l.val, by omega⟩ : Fin 3072)

/-- A tile's rows times 1024 of the weight's columns. -/
theorem sum_apply (c : Dev nD) (t : Fin cfg0.N) {o : ℕ} (ho : o ≤ 2048) (h : ∀ a, (![0, o] : Fin 2 → ℕ) a + (![1024, 1024] : Fin 2 → ℕ) a ≤ S1024x3072.size a) (r : Fin 512) (l : Fin 1024) :
    (∑ k, k0_pay3 (iblk m c 0 t) (iblk m c 1 t) (ix2 r k) * View.ld (iblk m c 2 t : Vec Ideal S1024x3072 .bf16) (Rect.unit (s := S1024x3072) ![0, o] ![1024, 1024] h) (ix2 k l : S1024x1024.Idx) : EReal)
      = cols m c o ho (rowAt t r) l := by
  unfold cols Cert.Row.proj
  refine Finset.sum_congr (M := EReal) rfl fun k _ => ?_
  rw [norm_apply]
  congr 1
  exact ld_weight m c t h k l ⟨o + l.val, by omega⟩ rfl

/-- A tile's rotated product is the rotation of the array's rows. -/
theorem turned_apply (c : Dev nD) (t : Fin cfg0.N) {o : ℕ} (ho : o ≤ 2048) (h : ∀ a, (![0, o] : Fin 2 → ℕ) a + (![1024, 1024] : Fin 2 → ℕ) a ≤ S1024x3072.size a) (r : Fin 512) (l : Fin 1024) :
    turned (k0_pay3 (iblk m c 0 t) (iblk m c 1 t)) (View.ld (iblk m c 2 t : Vec Ideal S1024x3072 .bf16) (Rect.unit (s := S1024x3072) ![0, o] ![1024, 1024] h)) (iblk m c 3 t) (iblk m c 4 t) r l
      = Cert.Row.ropeAt (cols m c o ho (rowAt t r)) (Cert.Row.angle ((rowAt t r).val % 2064)) l := by
  rw [← Cert.Row.rope_lane]
  unfold turned
  rw [sum_apply m c t ho h, sum_apply m c t ho h, sum_apply m c t ho h, x3_apply, x4_apply, cosT_apply, sinT_apply]
  have e1 : (⟨l.val % 128 % 32, by omega⟩ : Fin 32) = ⟨l.val % 32, by omega⟩ := Fin.ext (by dsimp only; omega)
  have e2 : l.val % 128 % 64 = l.val % 64 := by omega
  simp only [e1, e2]

/-- The queries: the first 1024 columns, rotated and scaled. -/
def Gq (c : Dev nD) (i : S82944x1024.Idx) : Elt Ideal .bf16 :=
  (Cert.Row.ropeAt (cols m c 0 (by omega) (i 0)) (Cert.Row.angle ((i 0).val % 2064)) (i 1) * Ideal.ofBits .f32 0x3E000000#32 : EReal)

/-- The keys: the next 1024 columns, rotated. -/
def Gk (c : Dev nD) (i : S82944x1024.Idx) : Elt Ideal .bf16 :=
  Cert.Row.ropeAt (cols m c 1024 (by omega) (i 0)) (Cert.Row.angle ((i 0).val % 2064)) (i 1)

/-- The values: the last 1024 columns. -/
def Gv (c : Dev nD) (i : S82944x1024.Idx) : Elt Ideal .bf16 := cols m c 2048 (by omega) (i 0) (i 1)

/-- A tile's queries are its rows of `Gq`. -/
theorem blockq (c : Dev nD) (t : Fin cfg0.N) (r : Fin 512) (l : Fin 1024) :
    k0_pay4 (iblk m c 0 t) (iblk m c 1 t) (View.ld (iblk m c 2 t) r0_2) (iblk m c 3 t) (iblk m c 4 t) (ix2 r l) = Gq m c (ix2 (rowAt t r) l) := by
  rw [pay4_apply]
  exact congrArg (fun z : EReal => z * Ideal.ofBits .f32 0x3E000000#32) (turned_apply m c t _ _ r l)

/-- A tile's keys are its rows of `Gk`. -/
theorem blockk (c : Dev nD) (t : Fin cfg0.N) (r : Fin 512) (l : Fin 1024) :
    k0_pay1 (k0_pay3 (iblk m c 0 t) (iblk m c 1 t)) (View.ld (iblk m c 2 t) r0_4) (iblk m c 3 t) (iblk m c 4 t) (ix2 r l) = Gk m c (ix2 (rowAt t r) l) := by
  rw [pay1_apply]
  exact turned_apply m c t _ _ r l

/-- A tile's values are its rows of `Gv`. -/
theorem blockv (c : Dev nD) (t : Fin cfg0.N) (r : Fin 512) (l : Fin 1024) :
    k0_pay2 (k0_pay3 (iblk m c 0 t) (iblk m c 1 t)) (View.ld (iblk m c 2 t) r0_5) (ix2 r l) = Gv m c (ix2 (rowAt t r) l) := by
  rw [pay2_apply]
  exact sum_apply m c t _ _ r l

end Cert.Kernel4Ideal.Proj

end
-- ==== Proof.QkvFinal.lean ====
/- The query, key and value results after the run. -/
module

public import proofs.«01_k».proof.Proof.QkvKernel
public import Idealize.ShloMosaic.Lib.Pointwise
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe Idealize.ShloMosaic.Tactic Idealize.SL.Sem

variable (m : (ℓ : Loc nD τ sig) → Buf (Elt Ideal) ℓ)

/-- The normed rows as the later products read them. -/
theorem pay5_eq (x0 : Vec Ideal S512x1024 .f32) (x1 : Vec Ideal S1x1024 .f32) (x2 : Vec Ideal S1024x3072 .bf16) (x3 x4 : Vec Ideal S512x128 .f32) :
    k0_pay5 x0 x1 x2 x3 x4 = k0_pay3 x0 x1 := by
  have h0 : View.ld x0 r0_0 = x0 := funext fun y => congrArg x0 (funext fun a => Fin.ext (by
    match a with
    | ⟨0, _⟩ => show 0 + 1 * (y 0).val = (y 0).val; omega
    | ⟨1, _⟩ => show 0 + 1 * (y 1).val = (y 1).val; omega))
  have h1 : View.ld x1 r0_1 = x1 := funext fun y => congrArg x1 (funext fun a => Fin.ext (by
    match a with
    | ⟨0, _⟩ => show 0 + 1 * (y 0).val = (y 0).val; omega
    | ⟨1, _⟩ => show 0 + 1 * (y 1).val = (y 1).val; omega))
  unfold k0_pay5
  rw [h0, h1]

/-- After the run the result array 0 is `Gq`. -/
theorem final5 (c : Dev nD) : (dats m 0 c).arrAt 5 cfg0.N = Gq m c := by
  refine (dats m 0 c).arrAt_eq_of_covers 5 _ (by decide +kernel) fun t hf y => ?_
  have d := idx_out t
  blk_simp
  rw [after0_5]
  frame_out
  have hy : ((View.whole main_v26_0).slice (win0_5.rect t)).emb y = (ix2 (rowAt t (y 0 : Fin 512)) (y 1 : Fin 1024) : S82944x1024.Idx) := by
    funext a
    apply Fin.ext
    match a with
    | ⟨0, _⟩ => show win0_5.index t (0 : Fin 2) * 512 + 1 * (y 0).val = t.val * 512 + (y 0).val; omega
    | ⟨1, _⟩ => show win0_5.index t (1 : Fin 2) * 1024 + 1 * (y 1).val = (y 1).val; omega
  have hx : (y : S512x1024.Idx) = ix2 (y 0 : Fin 512) (y 1 : Fin 1024) := funext fun a => by
    match a with
    | ⟨0, _⟩ => rfl
    | ⟨1, _⟩ => rfl
  rw [hy]
  exact (congrArg _ hx).trans (blockq m c t (y 0 : Fin 512) (y 1 : Fin 1024))

/-- After the run the result array 1 is `Gk`. -/
theorem final6 (c : Dev nD) : (dats m 0 c).arrAt 6 cfg0.N = Gk m c := by
  refine (dats m 0 c).arrAt_eq_of_covers 6 _ (by decide +kernel) fun t hf y => ?_
  have d := idx_out t
  blk_simp
  rw [after0_6]
  frame_out
  rw [pay5_eq]
  have hy : ((View.whole main_v26_1).slice (win0_6.rect t)).emb y = (ix2 (rowAt t (y 0 : Fin 512)) (y 1 : Fin 1024) : S82944x1024.Idx) := by
    funext a
    apply Fin.ext
    match a with
    | ⟨0, _⟩ => show win0_6.index t (0 : Fin 2) * 512 + 1 * (y 0).val = t.val * 512 + (y 0).val; omega
    | ⟨1, _⟩ => show win0_6.index t (1 : Fin 2) * 1024 + 1 * (y 1).val = (y 1).val; omega
  have hx : (y : S512x1024.Idx) = ix2 (y 0 : Fin 512) (y 1 : Fin 1024) := funext fun a => by
    match a with
    | ⟨0, _⟩ => rfl
    | ⟨1, _⟩ => rfl
  rw [hy]
  exact (congrArg _ hx).trans (blockk m c t (y 0 : Fin 512) (y 1 : Fin 1024))

/-- After the run the result array 2 is `Gv`. -/
theorem final7 (c : Dev nD) : (dats m 0 c).arrAt 7 cfg0.N = Gv m c := by
  refine (dats m 0 c).arrAt_eq_of_covers 7 _ (by decide +kernel) fun t hf y => ?_
  have d := idx_out t
  blk_simp
  rw [after0_7]
  frame_out
  rw [pay5_eq]
  have hy : ((View.whole main_v26_2).slice (win0_7.rect t)).emb y = (ix2 (rowAt t (y 0 : Fin 512)) (y 1 : Fin 1024) : S82944x1024.Idx) := by
    funext a
    apply Fin.ext
    match a with
    | ⟨0, _⟩ => show win0_7.index t (0 : Fin 2) * 512 + 1 * (y 0).val = t.val * 512 + (y 0).val; omega
    | ⟨1, _⟩ => show win0_7.index t (1 : Fin 2) * 1024 + 1 * (y 1).val = (y 1).val; omega
  have hx : (y : S512x1024.Idx) = ix2 (y 0 : Fin 512) (y 1 : Fin 1024) := funext fun a => by
    match a with
    | ⟨0, _⟩ => rfl
    | ⟨1, _⟩ => rfl
  rw [hy]
  exact (congrArg _ hx).trans (blockv m c t (y 0 : Fin 512) (y 1 : Fin 1024))

end Cert.Kernel4Ideal.Proj

end
-- ==== Proof.QkvRef.lean ====
/- What the attention projection's reference computes. -/
module

public import proofs.«01_k».proof.Proof.Gen.Reference4Ideal.Run
public import proofs.«01_k».proof.Proof.Rows

@[expose] public section

set_option maxRecDepth 16384

noncomputable section

namespace Cert.Reference4Ideal.Proj

open Cert.Reference4Ideal Cert.Reference4Ideal.Gen Idealize.ShloMosaic Idealize.ShloMosaic.TcCoe Idealize.ShloMosaic.Tactic

/-- The sequences' rows of the hidden state. -/
def rows (h : FVec Ideal S82944x1024 .f32) : FVec Ideal S82560x1024 .f32 :=
  extractStridedSlice S82560x1024 ![0, 0] h slices_S82944x1024_S82560x1024_0_0

/-- The reference's projection: the normed rows times the weight. -/
def all (x : FVec Ideal S82560x1024 .f32) (g : FVec Ideal S1024 .f32) (w : FVec Ideal S1024x3072 .f32) : FVec Ideal S82560x3072 .f32 :=
  Host.dotGeneral dot_S82560x1024_S1024x3072_S82560x3072_1_0_0_1_n_n none (mulf (mulf x (broadcastInDim S82560x1024 ![0, 1] bcast_S82560x1_S82560x1024_0_1 (Host.rsqrt (addf (Host.divf (broadcastInDim S82560x1 ![0] bcast_S82560_S82560x1_0 (Host.reduceAdd (mulf x x) (constant S_ .f32 0x00000000#32) reducesTo_S82560x1024_S82560_d1 h_S_)) (broadcastInDim S82560x1 ![] bcast_S_S82560x1 (constant S_ .f32 0x44800000#32))) (broadcastInDim S82560x1 ![] bcast_S_S82560x1 (constant S_ .f32 0x3727C5AC#32)))))) (broadcastInDim S82560x1024 ![0, 1] bcast_S1x1024_S82560x1024_0_1 (broadcastInDim S1x1024 ![1] bcast_S1024_S1x1024_1 g))) w

/-- The reference's projection at a row and column. -/
theorem all_apply (h : FVec Ideal S82944x1024 .f32) (g : FVec Ideal S1024 .f32) (w : FVec Ideal S1024x3072 .f32) (r : Fin 82560) (l : Fin 3072) :
    all (rows h) g w (ix2 r l) = Cert.Row.proj h g w (⟨r.val, by omega⟩ : Fin 82944) l := by
  pointwise [all, rows]
  rfl

/-- The angles of the positions. -/
def ang : FVec Ideal S2064x32 .f32 :=
  mulf (broadcastInDim S2064x32 ![0, 1] bcast_S2064x1_S2064x32_0_1 (broadcastInDim S2064x1 ![0] bcast_S2064_S2064x1_0 (sitofp .f32 (iotaInDim S2064 32 0)))) (broadcastInDim S2064x32 ![0, 1] bcast_S1x32_S2064x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- An angle. -/
theorem ang_apply (p : Fin 2064) (d : Fin 32) : ang (ix2 p d) = Cert.Row.angle p.val d := by
  pointwise [ang]
  rfl

/-- The rotation of the heads by the angles. -/
def rope (x : FVec Ideal S40x2064x16x64 .f32) (a : FVec Ideal S2064x32 .f32) : FVec Ideal S40x2064x16x64 .f32 :=
  concatenate S40x2064x16x64 3 [⟨S40x2064x16x32, (subf (mulf (extractStridedSlice S40x2064x16x32 ![0, 0, 0, 0] x slices_S40x2064x16x64_S40x2064x16x32_0_0_0_0) (broadcastInDim S40x2064x16x32 ![0, 1, 2, 3] bcast_S1x2064x1x32_S40x2064x16x32_0_1_2_3 (broadcastInDim S1x2064x1x32 ![1, 3] bcast_S2064x32_S1x2064x1x32_1_3 (Host.cos a))))
    (mulf (extractStridedSlice S40x2064x16x32 ![0, 0, 0, 32] x slices_S40x2064x16x64_S40x2064x16x32_0_0_0_32) (broadcastInDim S40x2064x16x32 ![0, 1, 2, 3] bcast_S1x2064x1x32_S40x2064x16x32_0_1_2_3 (broadcastInDim S1x2064x1x32 ![1, 3] bcast_S2064x32_S1x2064x1x32_1_3 (Host.sin a)))))⟩,
    ⟨S40x2064x16x32, (addf (mulf (extractStridedSlice S40x2064x16x32 ![0, 0, 0, 32] x slices_S40x2064x16x64_S40x2064x16x32_0_0_0_32) (broadcastInDim S40x2064x16x32 ![0, 1, 2, 3] bcast_S1x2064x1x32_S40x2064x16x32_0_1_2_3 (broadcastInDim S1x2064x1x32 ![1, 3] bcast_S2064x32_S1x2064x1x32_1_3 (Host.cos a))))
    (mulf (extractStridedSlice S40x2064x16x32 ![0, 0, 0, 0] x slices_S40x2064x16x64_S40x2064x16x32_0_0_0_0) (broadcastInDim S40x2064x16x32 ![0, 1, 2, 3] bcast_S1x2064x1x32_S40x2064x16x32_0_1_2_3 (broadcastInDim S1x2064x1x32 ![1, 3] bcast_S2064x32_S1x2064x1x32_1_3 (Host.sin a)))))⟩] concatenates_S40x2064x16x32_S40x2064x16x32_S40x2064x16x64_d3

/-- The rotation at a sequence, a position, a head and a lane. -/
theorem rope_apply (x : FVec Ideal S40x2064x16x64 .f32) (a : FVec Ideal S2064x32 .f32) (b : Fin 40) (s : Fin 2064) (n : Fin 16) (d : Fin 64) :
    rope x a (ix4 b s n d) =
      if h : d.val < 32 then
        x (ix4 b s n d) * Ideal.cos (a (ix2 s (⟨d.val, h⟩ : Fin 32))) - x (ix4 b s n (⟨32 + d.val, by omega⟩ : Fin 64)) * Ideal.sin (a (ix2 s (⟨d.val, h⟩ : Fin 32)))
      else
        x (ix4 b s n (⟨32 + (d.val - 32), by omega⟩ : Fin 64)) * Ideal.cos (a (ix2 s (⟨d.val - 32, by omega⟩ : Fin 32)))
          + x (ix4 b s n (⟨d.val - 32, by omega⟩ : Fin 64)) * Ideal.sin (a (ix2 s (⟨d.val - 32, by omega⟩ : Fin 32))) := by
  pointwise [rope]

/-- The rows as sequences, positions and heads. -/
theorem heads_apply (x : FVec Ideal S82560x1024 .f32) (b : Fin 40) (s : Fin 2064) (n : Fin 16) (d : Fin 64) :
    shapeCast S40x2064x16x64 x shapeCasts_S82560x1024_S40x2064x16x64 (ix4 b s n d) = x (ix2 (⟨b.val * 2064 + s.val, by omega⟩ : Fin 82560) (⟨n.val * 64 + d.val, by omega⟩ : Fin 1024)) := by
  pointwise

/-- The rotated heads of a row. -/
theorem rope_row (x : FVec Ideal S82560x1024 .f32) (r : Fin 82560) (l : Fin 1024) :
    rope (shapeCast S40x2064x16x64 x shapeCasts_S82560x1024_S40x2064x16x64) ang
        (ix4 (⟨r.val / 2064, by omega⟩ : Fin 40) (⟨r.val % 2064, by omega⟩ : Fin 2064) (⟨l.val / 64, by omega⟩ : Fin 16) (⟨l.val % 64, by omega⟩ : Fin 64))
      = Cert.Row.ropeAt (fun e => x (ix2 r e)) (Cert.Row.angle (r.val % 2064)) l := by
  have hx : ∀ (d : Fin 64) (e : Fin 1024), l.val / 64 * 64 + d.val = e.val →
      shapeCast S40x2064x16x64 x shapeCasts_S82560x1024_S40x2064x16x64
        (ix4 (⟨r.val / 2064, by omega⟩ : Fin 40) (⟨r.val % 2064, by omega⟩ : Fin 2064) (⟨l.val / 64, by omega⟩ : Fin 16) d) = x (ix2 r e) := fun d e h =>
    (heads_apply x _ _ _ _).trans (congrArg₂ (fun a b => x (ix2 a b)) (Fin.ext (by show r.val / 2064 * 2064 + r.val % 2064 = r.val; omega)) (Fin.ext h))
  rw [rope_apply]
  unfold Cert.Row.ropeAt
  by_cases h : l.val % 64 < 32
  · rw [dif_pos h, dif_pos h, hx _ l (by show l.val / 64 * 64 + l.val % 64 = l.val; omega), hx _ ⟨l.val + 32, by omega⟩ (by show l.val / 64 * 64 + (32 + l.val % 64) = l.val + 32; omega)]
    simp only [ang_apply]
  · rw [dif_neg h, dif_neg h, hx _ l (by show l.val / 64 * 64 + (32 + (l.val % 64 - 32)) = l.val; omega), hx _ ⟨l.val - 32, by omega⟩ (by show l.val / 64 * 64 + (l.val % 64 - 32) = l.val - 32; omega)]
    simp only [ang_apply]

/-- The heads back as rows, at a row of the sequences. -/
theorem back_apply (x : FVec Ideal S40x2064x16x64 .f32) (r : Fin 82944) (l : Fin 1024) (h : r.val < 82560) :
    truncf .bf16 (pad S82944x1024 ![0, 0] ![384, 0] ![0, 0] (shapeCast S82560x1024 x shapeCasts_S40x2064x16x64_S82560x1024) (sitofp .f32 (constantI S_ 32 0#32)) pads_S82560x1024_S82944x1024_03840_000 h_S_) bitsLt_bf16_f32 (ix2 r l : S82944x1024.Idx)
      = x (ix4 (⟨r.val / 2064, by omega⟩ : Fin 40) (⟨r.val % 2064, by omega⟩ : Fin 2064) (⟨l.val / 64, by omega⟩ : Fin 16) (⟨l.val % 64, by omega⟩ : Fin 64)) := by
  pointwise
  exact dif_pos h

/-- The rows padded, at a row of the sequences. -/
theorem pad_apply (x : FVec Ideal S82560x1024 .f32) (r : Fin 82944) (l : Fin 1024) (h : r.val < 82560) :
    truncf .bf16 (pad S82944x1024 ![0, 0] ![384, 0] ![0, 0] x (sitofp .f32 (constantI S_ 32 0#32)) pads_S82560x1024_S82944x1024_03840_000 h_S_) bitsLt_bf16_f32 (ix2 r l : S82944x1024.Idx)
      = x (ix2 (⟨r.val, h⟩ : Fin 82560) l) := by
  pointwise
  exact dif_pos h

/-- The scaling of the queries. -/
theorem scale_apply (x : FVec Ideal S40x2064x16x64 .f32) (i : S40x2064x16x64.Idx) :
    mulf x (broadcastInDim S40x2064x16x64 ![] bcast_S_S40x2064x16x64 (constant S_ .f32 0x3E000000#32)) i = x i * Ideal.ofBits .f32 0x3E000000#32 := rfl

/-- The three parts of the projection at a row and lane. -/
theorem slices_apply (x : FVec Ideal S82560x3072 .f32) (r : Fin 82560) (l : Fin 1024) :
    extractStridedSlice S82560x1024 ![0, 0] x slices_S82560x3072_S82560x1024_0_0 (ix2 r l : S82560x1024.Idx) = x (ix2 r (⟨l.val, by omega⟩ : Fin 3072))
    ∧ extractStridedSlice S82560x1024 ![0, 1024] x slices_S82560x3072_S82560x1024_0_1024 (ix2 r l : S82560x1024.Idx) = x (ix2 r (⟨1024 + l.val, by omega⟩ : Fin 3072))
    ∧ extractStridedSlice S82560x1024 ![0, 2048] x slices_S82560x3072_S82560x1024_0_2048 (ix2 r l : S82560x1024.Idx) = x (ix2 r (⟨2048 + l.val, by omega⟩ : Fin 3072)) := by
  refine ⟨?_, ?_, ?_⟩
  · pointwise
  · pointwise
  · pointwise

/-- The query result is the rotated, scaled heads, back as rows. -/
theorem q_eq (m : (ℓ : Loc nD τ sig) → Buf (Elt Ideal) ℓ) (c : Dev nD) : Value.res_main_v93 m c =
    truncf .bf16 (pad S82944x1024 ![0, 0] ![384, 0] ![0, 0] (shapeCast S82560x1024 (mulf (rope (shapeCast S40x2064x16x64 (extractStridedSlice S82560x1024 ![0, 0] (all (rows (m ((c.tc : Thread nD τ).loc main_arg0))) (m ((c.tc : Thread nD τ).loc main_arg1)) (m ((c.tc : Thread nD τ).loc main_arg2))) slices_S82560x3072_S82560x1024_0_0) shapeCasts_S82560x1024_S40x2064x16x64) ang) (broadcastInDim S40x2064x16x64 ![] bcast_S_S40x2064x16x64 (constant S_ .f32 0x3E000000#32))) shapeCasts_S40x2064x16x64_S82560x1024) (sitofp .f32 (constantI S_ 32 0#32)) pads_S82560x1024_S82944x1024_03840_000 h_S_) bitsLt_bf16_f32 := by
  unfold Value.res_main_v93 rope all rows ang
  rfl

/-- The key result is the rotated heads, back as rows. -/
theorem k_eq (m : (ℓ : Loc nD τ sig) → Buf (Elt Ideal) ℓ) (c : Dev nD) : Value.res_main_v95 m c =
    truncf .bf16 (pad S82944x1024 ![0, 0] ![384, 0] ![0, 0] (shapeCast S82560x1024 (rope (shapeCast S40x2064x16x64 (extractStridedSlice S82560x1024 ![0, 1024] (all (rows (m ((c.tc : Thread nD τ).loc main_arg0))) (m ((c.tc : Thread nD τ).loc main_arg1)) (m ((c.tc : Thread nD τ).loc main_arg2))) slices_S82560x3072_S82560x1024_0_1024) shapeCasts_S82560x1024_S40x2064x16x64) ang) shapeCasts_S40x2064x16x64_S82560x1024) (sitofp .f32 (constantI S_ 32 0#32)) pads_S82560x1024_S82944x1024_03840_000 h_S_) bitsLt_bf16_f32 := by
  unfold Value.res_main_v95 rope all rows ang
  rfl

/-- The query result at a row of the sequences. -/
theorem q_apply (m : (ℓ : Loc nD τ sig) → Buf (Elt Ideal) ℓ) (c : Dev nD) (r : Fin 82944) (l : Fin 1024) (h : r.val < 82560) :
    Value.res_main_v93 m c (ix2 r l : S82944x1024.Idx)
      = Cert.Row.ropeAt (fun e => Cert.Row.proj (m ((c.tc : Thread nD τ).loc main_arg0)) (m ((c.tc : Thread nD τ).loc main_arg1)) (m ((c.tc : Thread nD τ).loc main_arg2)) r (⟨e.val, by omega⟩ : Fin 3072))
          (Cert.Row.angle (r.val % 2064)) l * Ideal.ofBits .f32 0x3E000000#32 := by
  rw [q_eq, back_apply _ r l h, scale_apply, rope_row _ ⟨r.val, h⟩ l]
  simp only [(slices_apply _ _ _).1, all_apply]

/-- The key result at a row of the sequences. -/
theorem k_apply (m : (ℓ : Loc nD τ sig) → Buf (Elt Ideal) ℓ) (c : Dev nD) (r : Fin 82944) (l : Fin 1024) (h : r.val < 82560) :
    Value.res_main_v95 m c (ix2 r l : S82944x1024.Idx)
      = Cert.Row.ropeAt (fun e => Cert.Row.proj (m ((c.tc : Thread nD τ).loc main_arg0)) (m ((c.tc : Thread nD τ).loc main_arg1)) (m ((c.tc : Thread nD τ).loc main_arg2)) r (⟨1024 + e.val, by omega⟩ : Fin 3072))
          (Cert.Row.angle (r.val % 2064)) l := by
  rw [k_eq, back_apply _ r l h, rope_row _ ⟨r.val, h⟩ l]
  simp only [(slices_apply _ _ _).2.1, all_apply]

/-- The value result at a row of the sequences. -/
theorem v_apply (x : FVec Ideal S82944x1024 .f32) (g : FVec Ideal S1024 .f32) (w : FVec Ideal S1024x3072 .f32) (r : Fin 82944) (l : Fin 1024) (h : r.val < 82560) :
    truncf .bf16 (pad S82944x1024 ![0, 0] ![384, 0] ![0, 0] (extractStridedSlice S82560x1024 ![0, 2048] (all (rows x) g w) slices_S82560x3072_S82560x1024_0_2048) (sitofp .f32 (constantI S_ 32 0#32)) pads_S82560x1024_S82944x1024_03840_000 h_S_) bitsLt_bf16_f32 (ix2 r l : S82944x1024.Idx)
      = Cert.Row.proj x g w r (⟨2048 + l.val, by omega⟩ : Fin 3072) := by
  rw [pad_apply _ r l h, (slices_apply _ _ _).2.2, all_apply]

end Cert.Reference4Ideal.Proj

end
-- ==== Proof.NormKernel.lean ====
/- What the final norm of the prompt's sequences leaves in its result. -/
module

public import proofs.«01_k».proof.Proof.Gen.Kernel6Ideal.Value
public import proofs.«01_k».proof.Proof.Rows
public import Idealize.ShloMosaic.Lib.Pointwise
public import Idealize.ShloMosaic.Lib.Pipeline.ValueKit

@[expose] public section

set_option maxRecDepth 16384

noncomputable section

namespace Cert.Kernel6Ideal.Norm

open Cert.Kernel6Ideal Cert.Kernel6Ideal.Gen Idealize.ShloMosaic Idealize.ShloMosaic.TcCoe Idealize.ShloMosaic.Tactic Idealize.SL.Sem

variable (m : (ℓ : Loc nD τ sig) → Buf (Elt Ideal) ℓ)

/-- A trip's block: each of its rows normed. -/
theorem pay_apply (g : Vec Ideal S1x1024 .f32) (x : Vec Ideal S128x1024 .f32) (u : Fin 1) (r : Fin 128) (l : Fin 1024) :
    k0_pay1 g x (ix3 u r l) = Cert.Row.normRow (fun k => x (ix2 r k)) (fun k => g (ix2 0 k)) l := by
  pointwise [k0_pay1]
  rfl

/-- A grid point's block of the result from its two input blocks: the rows after the meta tokens, normed. -/
def blockRow (x : Vec Ideal S2064x1024 .f32) (g : Vec Ideal S1x1024 .f32) (i : S1x2048x1024.Idx) : Elt Ideal .f32 :=
  Cert.Row.normRow (fun k => x (ix2 (⟨16 + (i 1).val, by have h : (i 1).val < 2048 := (i 1).isLt; omega⟩ : Fin 2064) k)) (fun k => g (ix2 0 k)) (i 2)

/-- A trip's one store: its rows, and what it stores there. -/
theorem trip_eq (𝒱 : Variants) (c : Dev nD) (bd : Option 𝒱.V) (i : grid0.Coords) (arg1 : Memref sig .tc .vmem S2064x1024 .f32) (harg1 : arg1.IsWhole) (arg2 : Memref sig .tc .vmem S1x1024 .f32) (harg2 : arg2.IsWhole)
    (arg3 : Memref sig .tc .vmem S1x2048x1024 .f32) (harg3 : arg3.IsWhole) (v0 : Vec Ideal S1x1024 .f32) (X : BufTy.Contents (Elt Ideal) arg1.view.ty) (k : Fin k0_t1_loop.trips) :
    tripL_k0_t1 (F := Ideal) 𝒱 c bd i arg1 harg1 arg2 harg2 arg3 harg3 v0 X k
      = [⟨Rect.unit (s := S1x2048x1024) (k0_off2 k) S1x128x1024.size (k0_off2_inb k),
          k0_pay1 v0 (View.ld (arg1.view.read (Elt Ideal) X) (Rect.unit (s := S2064x1024) (k0_off1 k) S128x1024.size (k0_off1_inb k)))⟩] := by
  unfold tripL_k0_t1 trip_k0_t1
  rfl

/-- What a trip stores is its rows of the block. -/
theorem trip_block (x : Vec Ideal S2064x1024 .f32) (g : Vec Ideal S1x1024 .f32) (k : Fin k0_t1_loop.trips) (y : S1x128x1024.Idx) :
    k0_pay1 g (View.ld x (Rect.unit (s := S2064x1024) (k0_off1 k) S128x1024.size (k0_off1_inb k))) y
      = blockRow x g ((Rect.unit (s := S1x2048x1024) (k0_off2 k) S1x128x1024.size (k0_off2_inb k)).emb y) := by
  have hy : y = ix3 (y 0 : Fin 1) (y 1 : Fin 128) (y 2 : Fin 1024) := funext fun a => by
    match a with
    | ⟨0, _⟩ => rfl
    | ⟨1, _⟩ => rfl
    | ⟨2, _⟩ => rfl
  have h1 := congrFun (k0_off2_eq k) 1
  have h2 := congrFun (k0_off2_eq k) 2
  have g0 := congrFun (k0_off1_eq k) 0
  have g1 := congrFun (k0_off1_eq k) 1
  refine (congrArg _ hy).trans ((pay_apply _ _ _ _ _).trans ?_)
  unfold blockRow
  congr 1
  · funext j
    show x ((Rect.unit (s := S2064x1024) (k0_off1 k) S128x1024.size (k0_off1_inb k)).emb (ix2 (y 1 : Fin 128) j : S128x1024.Idx)) = _
    congr 1
    funext a
    apply Fin.ext
    match a with
    | ⟨0, _⟩ => show k0_off1 k 0 + 1 * (y 1).val = 16 + (k0_off2 k 1 + 1 * (y 1).val); rw [g0, h1]; show 128 * k.val + 16 + 1 * (y 1).val = 16 + (128 * k.val + 1 * (y 1).val); omega
    | ⟨1, _⟩ => show k0_off1 k 1 + 1 * j.val = j.val; rw [g1]; show 0 + 1 * j.val = j.val; omega
  · exact Fin.ext (by show (y 2).val = k0_off2 k 2 + 1 * (y 2).val; rw [h2]; show (y 2).val = 0 + 1 * (y 2).val; omega)

/-- Every piece the first `n` trips store agrees with the block. -/
theorem pieces_eq (𝒱 : Variants) (c : Dev nD) (bd : Option 𝒱.V) (i : grid0.Coords) (arg1 : Memref sig .tc .vmem S2064x1024 .f32) (harg1 : arg1.IsWhole) (arg2 : Memref sig .tc .vmem S1x1024 .f32) (harg2 : arg2.IsWhole)
    (arg3 : Memref sig .tc .vmem S1x2048x1024 .f32) (harg3 : arg3.IsWhole) (v0 : Vec Ideal S1x1024 .f32) (X : BufTy.Contents (Elt Ideal) arg1.view.ty) (n : ℕ) (hn : n ≤ k0_t1_loop.trips) :
    ∀ p ∈ pb_k0_t1 (F := Ideal) 𝒱 c bd i arg1 harg1 arg2 harg2 arg3 harg3 v0 X n, ∀ y : p.1.shape.Idx, p.2 y = blockRow (arg1.view.read (Elt Ideal) X) v0 (p.1.emb y) := by
  induction n with
  | zero => intro p hp; simp [pb_k0_t1] at hp
  | succ n ih =>
    intro p hp
    have hs := pb_k0_t1_succ (F := Ideal) 𝒱 c bd i arg1 harg1 arg2 harg2 arg3 harg3 v0 X ⟨n, hn⟩
    rw [show n + 1 = (⟨n, hn⟩ : Fin k0_t1_loop.trips).val + 1 from rfl, hs, trip_eq, List.mem_append, List.mem_singleton] at hp
    rcases hp with hp | hp
    · subst hp
      exact trip_block _ v0 ⟨n, hn⟩
    · exact ih (Nat.le_of_succ_le hn) p hp

/-- What a grid point leaves in its output block. -/
theorem out_eq (c : Dev nD) (i : grid0.Coords) (arg1 : Memref sig .tc .vmem S2064x1024 .f32) (harg1 : arg1.IsWhole) (arg2 : Memref sig .tc .vmem S1x1024 .f32) (harg2 : arg2.IsWhole)
    (arg3 : Memref sig .tc .vmem S1x2048x1024 .f32) (harg3 : arg3.IsWhole) (x0 : Vec Ideal S2064x1024 .f32) (x1 : Vec Ideal S1x1024 .f32) (y : S1x2048x1024.Idx) :
    out0_A_2 (F := Ideal) c i arg1 harg1 arg2 harg2 arg3 harg3 x0 x1 y = blockRow x0 x1 y := by
  have hz : (![0, 0] : Fin 2 → Nat) = fun _ => 0 := funext fun a => by fin_cases a <;> rfl
  have e := View.ld_unit_zero (S := S1x1024) (Val := Elt Ideal) (e := .f32) hz inb_S1x1024_S1x1024_0_0
  have r2 : View.readAt (Elt Ideal) arg2.view (Rect.unit (s := S1x1024) ![0, 0] S1x1024.size inb_S1x1024_S1x1024_0_0).toLoadRect (harg2.unread x1) = x1 := by rw [View.readAt_eq_ld, e, harg2.read_unread]
  have hc := cover0_A_2 (F := Ideal) c i arg1 harg1 arg2 harg2 arg3 harg3 x0 x1 y
  have hp := pieces_eq Variants.none c none i arg1 harg1 arg2 harg2 arg3 harg3 x1 (harg1.unread x0) _ (le_refl k0_t1_loop.trips)
  rw [harg1.read_unread] at hp
  unfold out0_A_2
  rw [View.read_writes_junk_eq_canon]
  refine View.canon_apply_of_pieces (blockRow x0 x1) _ ?_ y hc
  unfold kernelRun0_A
  dsimp only
  erw [r2]
  exact hp

/-- The tile index of each window: a sequence per grid point, the gain whole. -/
theorem idx : ∀ t : Fin cfg0.N, (win0_0.index t (0 : Fin 2) = t.val ∧ win0_0.index t (1 : Fin 2) = 0) ∧ (win0_1.index t (0 : Fin 2) = 0 ∧ win0_1.index t (1 : Fin 2) = 0)
    ∧ win0_2.index t (0 : Fin 3) = t.val ∧ win0_2.index t (1 : Fin 3) = 0 ∧ win0_2.index t (2 : Fin 3) = 0 :=
  (by decide +kernel : ∀ t : Fin grid0.N, (win0_0.index t (0 : Fin 2) = t.val ∧ win0_0.index t (1 : Fin 2) = 0) ∧ (win0_1.index t (0 : Fin 2) = 0 ∧ win0_1.index t (1 : Fin 2) = 0)
    ∧ win0_2.index t (0 : Fin 3) = t.val ∧ win0_2.index t (1 : Fin 3) = 0 ∧ win0_2.index t (2 : Fin 3) = 0)

/-- The result array: the hidden state's row after the sequence's meta tokens, normed. -/
def G (c : Dev nD) (i : S32x2048x1024.Idx) : Elt Ideal .f32 :=
  Cert.Row.normRow (fun k => m ((c : Thread nD τ).loc main_arg0) (ix2 (⟨2064 * (i 0).val + (16 + (i 1).val), by have h0 : (i 0).val < 32 := (i 0).isLt; have h1 : (i 1).val < 2048 := (i 1).isLt; omega⟩ : Fin 82944) k : S82944x1024.Idx))
    (fun k => m ((c : Thread nD τ).loc main_arg1) (ix1 k : S1024.Idx)) (i 2)

/-- The sequence a grid point reads. -/
theorem x0_apply (c : Dev nD) (t : Fin cfg0.N) (r : Fin 2064) (l : Fin 1024) (q : Fin 82944) (hq : q.val = 2064 * t.val + r.val) :
    X0_0 m c t (ix2 r l : S2064x1024.Idx) = m ((c : Thread nD τ).loc main_arg0) (ix2 q l : S82944x1024.Idx) := by
  obtain ⟨⟨h0, h1⟩, -⟩ := idx t
  unfold X0_0 Pipeline.Window.fill
  rw [dif_pos (moved0_0 t _), ← V_main_arg0 m c]
  show V m c main_arg0 (((cfg0.win 0).blk t).view.emb _) = _
  congr 1
  funext a
  apply Fin.ext
  match a with
  | ⟨0, _⟩ => show win0_0.index t (0 : Fin 2) * 2064 + 1 * r.val = q.val; omega
  | ⟨1, _⟩ => show win0_0.index t (1 : Fin 2) * 1024 + 1 * l.val = l.val; omega

/-- The gain, whole at every grid point. -/
theorem x1_apply (c : Dev nD) (t : Fin cfg0.N) (k : Fin 1024) :
    iblk m c 1 t (ix2 0 k : S1x1024.Idx) = m ((c : Thread nD τ).loc main_arg1) (ix1 k : S1024.Idx) := by
  obtain ⟨-, ⟨h0, h1⟩, -⟩ := idx t
  have hV : V m c main_v0 = shapeCast S1x1024 (m ((c : Thread nD τ).loc main_arg1)) shapeCasts_S1024_S1x1024 := by
    show StableHlo.after hostOps0 _ (Proc.devRef .tc main_v0) = _
    after_results
    rfl
  have he : iblk m c 1 t (ix2 0 k : S1x1024.Idx) = V m c main_v0 (ix2 0 k : S1x1024.Idx) := by
    show V m c main_v0 (((cfg0.win 1).blk t).view.emb _) = _
    congr 1
    funext a
    apply Fin.ext
    match a with
    | ⟨0, _⟩ => show win0_1.index t (0 : Fin 2) * 1 + 1 * 0 = 0; omega
    | ⟨1, _⟩ => show win0_1.index t (1 : Fin 2) * 1024 + 1 * k.val = k.val; omega
  rw [he, hV]
  pointwise

/-- After the run the result array is `G`. -/
theorem final (c : Dev nD) : (dats m 0 c).arrAt 2 cfg0.N = G m c := by
  refine (dats m 0 c).arrAt_eq_of_covers 2 _ (by decide +kernel) fun t hf y => ?_
  obtain ⟨-, -, d0, d1, d2⟩ := idx t
  blk_simp
  rw [after0_2]
  unfold outsAt0
  refine (out_eq c _ _ _ _ _ _ _ _ _ _).trans ?_
  unfold blockRow G
  have e0 : ((((View.whole main_v1).slice (win0_2.rect t)).emb y : S32x2048x1024.Idx) 0).val = t.val := by
    show win0_2.index t (0 : Fin 3) * 1 + 1 * (y 0).val = t.val
    have : (y 0).val < 1 := (y 0).isLt
    omega
  have e1 : ((((View.whole main_v1).slice (win0_2.rect t)).emb y : S32x2048x1024.Idx) 1).val = (y 1).val := by
    show win0_2.index t (1 : Fin 3) * 2048 + 1 * (y 1).val = (y 1).val
    omega
  congr 1
  · funext k
    refine x0_apply m c t _ k _ ?_
    show 2064 * _ + (16 + _) = 2064 * t.val + (16 + _)
    rw [e0, e1]
  · funext k
    exact x1_apply m c t k
  · exact Fin.ext (by show (y 2).val = win0_2.index t (2 : Fin 3) * 1024 + 1 * (y 2).val; omega)

end Cert.Kernel6Ideal.Norm

end
-- ==== Proof.NormKernel7.lean ====
/- What the final norm of the sample's sequences leaves in its result. -/
module

public import proofs.«01_k».proof.Proof.Gen.Kernel7Ideal.Value
public import proofs.«01_k».proof.Proof.NormKernel
public import Idealize.ShloMosaic.Lib.Pointwise
public import Idealize.ShloMosaic.Lib.Pipeline.ValueKit

@[expose] public section

set_option maxRecDepth 16384

noncomputable section

namespace Cert.Kernel7Ideal.Norm

open Cert.Kernel7Ideal Cert.Kernel7Ideal.Gen Idealize.ShloMosaic Idealize.ShloMosaic.TcCoe Idealize.ShloMosaic.Tactic Idealize.SL.Sem
open Cert.Kernel6Ideal.Norm (blockRow)

variable (m : (ℓ : Loc nD τ sig) → Buf (Elt Ideal) ℓ)

/-- A trip's one store: its rows, and what it stores there. -/
theorem trip_eq (𝒱 : Variants) (c : Dev nD) (bd : Option 𝒱.V) (i : grid0.Coords) (arg1 : Memref sig .tc .vmem S2064x1024 .f32) (harg1 : arg1.IsWhole) (arg2 : Memref sig .tc .vmem S1x1024 .f32) (harg2 : arg2.IsWhole)
    (arg3 : Memref sig .tc .vmem S1x2048x1024 .f32) (harg3 : arg3.IsWhole) (v0 : Vec Ideal S1x1024 .f32) (X : BufTy.Contents (Elt Ideal) arg1.view.ty) (k : Fin k0_t1_loop.trips) :
    tripL_k0_t1 (F := Ideal) 𝒱 c bd i arg1 harg1 arg2 harg2 arg3 harg3 v0 X k
      = [⟨Rect.unit (s := S1x2048x1024) (k0_off2 k) S1x128x1024.size (k0_off2_inb k),
          k0_pay1 v0 (View.ld (arg1.view.read (Elt Ideal) X) (Rect.unit (s := S2064x1024) (k0_off1 k) S128x1024.size (k0_off1_inb k)))⟩] := by
  unfold tripL_k0_t1 trip_k0_t1
  rfl

/-- What a trip stores is its rows of the block. -/
theorem trip_block (x : Vec Ideal S2064x1024 .f32) (g : Vec Ideal S1x1024 .f32) (k : Fin k0_t1_loop.trips) (y : S1x128x1024.Idx) :
    k0_pay1 g (View.ld x (Rect.unit (s := S2064x1024) (k0_off1 k) S128x1024.size (k0_off1_inb k))) y
      = blockRow x g ((Rect.unit (s := S1x2048x1024) (k0_off2 k) S1x128x1024.size (k0_off2_inb k)).emb y) :=
  Cert.Kernel6Ideal.Norm.trip_block x g k y

/-- Every piece the first `n` trips store agrees with the block. -/
theorem pieces_eq (𝒱 : Variants) (c : Dev nD) (bd : Option 𝒱.V) (i : grid0.Coords) (arg1 : Memref sig .tc .vmem S2064x1024 .f32) (harg1 : arg1.IsWhole) (arg2 : Memref sig .tc .vmem S1x1024 .f32) (harg2 : arg2.IsWhole)
    (arg3 : Memref sig .tc .vmem S1x2048x1024 .f32) (harg3 : arg3.IsWhole) (v0 : Vec Ideal S1x1024 .f32) (X : BufTy.Contents (Elt Ideal) arg1.view.ty) (n : ℕ) (hn : n ≤ k0_t1_loop.trips) :
    ∀ p ∈ pb_k0_t1 (F := Ideal) 𝒱 c bd i arg1 harg1 arg2 harg2 arg3 harg3 v0 X n, ∀ y : p.1.shape.Idx, p.2 y = blockRow (arg1.view.read (Elt Ideal) X) v0 (p.1.emb y) := by
  induction n with
  | zero => intro p hp; simp [pb_k0_t1] at hp
  | succ n ih =>
    intro p hp
    have hs := pb_k0_t1_succ (F := Ideal) 𝒱 c bd i arg1 harg1 arg2 harg2 arg3 harg3 v0 X ⟨n, hn⟩
    rw [show n + 1 = (⟨n, hn⟩ : Fin k0_t1_loop.trips).val + 1 from rfl, hs, trip_eq, List.mem_append, List.mem_singleton] at hp
    rcases hp with hp | hp
    · subst hp
      exact trip_block _ v0 ⟨n, hn⟩
    · exact ih (Nat.le_of_succ_le hn) p hp

/-- What a grid point leaves in its output block. -/
theorem out_eq (c : Dev nD) (i : grid0.Coords) (arg1 : Memref sig .tc .vmem S2064x1024 .f32) (harg1 : arg1.IsWhole) (arg2 : Memref sig .tc .vmem S1x1024 .f32) (harg2 : arg2.IsWhole)
    (arg3 : Memref sig .tc .vmem S1x2048x1024 .f32) (harg3 : arg3.IsWhole) (x0 : Vec Ideal S2064x1024 .f32) (x1 : Vec Ideal S1x1024 .f32) (y : S1x2048x1024.Idx) :
    out0_A_2 (F := Ideal) c i arg1 harg1 arg2 harg2 arg3 harg3 x0 x1 y = blockRow x0 x1 y := by
  have hz : (![0, 0] : Fin 2 → Nat) = fun _ => 0 := funext fun a => by fin_cases a <;> rfl
  have e := View.ld_unit_zero (S := S1x1024) (Val := Elt Ideal) (e := .f32) hz inb_S1x1024_S1x1024_0_0
  have r2 : View.readAt (Elt Ideal) arg2.view (Rect.unit (s := S1x1024) ![0, 0] S1x1024.size inb_S1x1024_S1x1024_0_0).toLoadRect (harg2.unread x1) = x1 := by rw [View.readAt_eq_ld, e, harg2.read_unread]
  have hc := cover0_A_2 (F := Ideal) c i arg1 harg1 arg2 harg2 arg3 harg3 x0 x1 y
  have hp := pieces_eq Variants.none c none i arg1 harg1 arg2 harg2 arg3 harg3 x1 (harg1.unread x0) _ (le_refl k0_t1_loop.trips)
  rw [harg1.read_unread] at hp
  unfold out0_A_2
  rw [View.read_writes_junk_eq_canon]
  refine View.canon_apply_of_pieces (blockRow x0 x1) _ ?_ y hc
  unfold kernelRun0_A
  dsimp only
  erw [r2]
  exact hp

/-- The tile index of each window: a sequence per grid point, the gain whole. -/
theorem idx : ∀ t : Fin cfg0.N, (win0_0.index t (0 : Fin 2) = 32 + t.val ∧ win0_0.index t (1 : Fin 2) = 0) ∧ (win0_1.index t (0 : Fin 2) = 0 ∧ win0_1.index t (1 : Fin 2) = 0)
    ∧ win0_2.index t (0 : Fin 3) = t.val ∧ win0_2.index t (1 : Fin 3) = 0 ∧ win0_2.index t (2 : Fin 3) = 0 :=
  (by decide +kernel : ∀ t : Fin grid0.N, (win0_0.index t (0 : Fin 2) = 32 + t.val ∧ win0_0.index t (1 : Fin 2) = 0) ∧ (win0_1.index t (0 : Fin 2) = 0 ∧ win0_1.index t (1 : Fin 2) = 0)
    ∧ win0_2.index t (0 : Fin 3) = t.val ∧ win0_2.index t (1 : Fin 3) = 0 ∧ win0_2.index t (2 : Fin 3) = 0)

/-- The result array: the hidden state's row after the sequence's meta tokens, normed. -/
def G (c : Dev nD) (i : S8x2048x1024.Idx) : Elt Ideal .f32 :=
  Cert.Row.normRow (fun k => m ((c : Thread nD τ).loc main_arg0) (ix2 (⟨2064 * (32 + (i 0).val) + (16 + (i 1).val), by have h0 : (i 0).val < 8 := (i 0).isLt; have h1 : (i 1).val < 2048 := (i 1).isLt; omega⟩ : Fin 82944) k : S82944x1024.Idx))
    (fun k => m ((c : Thread nD τ).loc main_arg1) (ix1 k : S1024.Idx)) (i 2)

/-- The sequence a grid point reads. -/
theorem x0_apply (c : Dev nD) (t : Fin cfg0.N) (r : Fin 2064) (l : Fin 1024) (q : Fin 82944) (hq : q.val = 2064 * (32 + t.val) + r.val) :
    X0_0 m c t (ix2 r l : S2064x1024.Idx) = m ((c : Thread nD τ).loc main_arg0) (ix2 q l : S82944x1024.Idx) := by
  obtain ⟨⟨h0, h1⟩, -⟩ := idx t
  unfold X0_0 Pipeline.Window.fill
  rw [dif_pos (moved0_0 t _), ← V_main_arg0 m c]
  show V m c main_arg0 (((cfg0.win 0).blk t).view.emb _) = _
  congr 1
  funext a
  apply Fin.ext
  match a with
  | ⟨0, _⟩ => show win0_0.index t (0 : Fin 2) * 2064 + 1 * r.val = q.val; omega
  | ⟨1, _⟩ => show win0_0.index t (1 : Fin 2) * 1024 + 1 * l.val = l.val; omega

/-- The gain, whole at every grid point. -/
theorem x1_apply (c : Dev nD) (t : Fin cfg0.N) (k : Fin 1024) :
    iblk m c 1 t (ix2 0 k : S1x1024.Idx) = m ((c : Thread nD τ).loc main_arg1) (ix1 k : S1024.Idx) := by
  obtain ⟨-, ⟨h0, h1⟩, -⟩ := idx t
  have hV : V m c main_v0 = shapeCast S1x1024 (m ((c : Thread nD τ).loc main_arg1)) shapeCasts_S1024_S1x1024 := by
    show StableHlo.after hostOps0 _ (Proc.devRef .tc main_v0) = _
    after_results
    rfl
  have he : iblk m c 1 t (ix2 0 k : S1x1024.Idx) = V m c main_v0 (ix2 0 k : S1x1024.Idx) := by
    show V m c main_v0 (((cfg0.win 1).blk t).view.emb _) = _
    congr 1
    funext a
    apply Fin.ext
    match a with
    | ⟨0, _⟩ => show win0_1.index t (0 : Fin 2) * 1 + 1 * 0 = 0; omega
    | ⟨1, _⟩ => show win0_1.index t (1 : Fin 2) * 1024 + 1 * k.val = k.val; omega
  rw [he, hV]
  pointwise

/-- After the run the result array is `G`. -/
theorem final (c : Dev nD) : (dats m 0 c).arrAt 2 cfg0.N = G m c := by
  refine (dats m 0 c).arrAt_eq_of_covers 2 _ (by decide +kernel) fun t hf y => ?_
  obtain ⟨-, -, d0, d1, d2⟩ := idx t
  blk_simp
  rw [after0_2]
  unfold outsAt0
  refine (out_eq c _ _ _ _ _ _ _ _ _ _).trans ?_
  unfold Cert.Kernel6Ideal.Norm.blockRow G
  have e0 : ((((View.whole main_v1).slice (win0_2.rect t)).emb y : S8x2048x1024.Idx) 0).val = t.val := by
    show win0_2.index t (0 : Fin 3) * 1 + 1 * (y 0).val = t.val
    have : (y 0).val < 1 := (y 0).isLt
    omega
  have e1 : ((((View.whole main_v1).slice (win0_2.rect t)).emb y : S8x2048x1024.Idx) 1).val = (y 1).val := by
    show win0_2.index t (1 : Fin 3) * 2048 + 1 * (y 1).val = (y 1).val
    omega
  congr 1
  · funext k
    refine x0_apply m c t _ k _ ?_
    show 2064 * (32 + _) + (16 + _) = 2064 * (32 + t.val) + (16 + _)
    rw [e0, e1]
  · funext k
    exact x1_apply m c t k
  · exact Fin.ext (by show (y 2).val = win0_2.index t (2 : Fin 3) * 1024 + 1 * (y 2).val; omega)

end Cert.Kernel7Ideal.Norm

end
-- ==== Proof.NormRef.lean ====
/- What the final norm's reference computes. -/
module

public import proofs.«01_k».proof.Proof.Gen.Reference6Ideal.Run
public import proofs.«01_k».proof.Proof.Gen.Reference7Ideal.Run
public import proofs.«01_k».proof.Proof.Rows

@[expose] public section

set_option maxRecDepth 16384

noncomputable section

namespace Cert.Reference6Ideal.Norm

open Cert.Reference6Ideal Cert.Reference6Ideal.Gen Idealize.ShloMosaic Idealize.ShloMosaic.Tactic

/-- The prompt's sequences in the hidden state. -/
def seqs (h : FVec Ideal S82944x1024 .f32) : FVec Ideal S32x2064x1024 .f32 :=
  shapeCast _ (extractStridedSlice S66048x1024 ![0, 0] h slices_S82944x1024_S66048x1024_0_0) shapeCasts_S66048x1024_S32x2064x1024

/-- A sequence's row is a row of the hidden state. -/
theorem seqs_apply (h : FVec Ideal S82944x1024 .f32) (b : Fin 32) (r : Fin 2064) (k : Fin 1024) :
    seqs h (ix3 b r k) = h (ix2 (⟨2064 * b.val + r.val, by omega⟩ : Fin 82944) k) := by
  pointwise [seqs]
  exact congrArg (fun q => h (ix2 q k)) (Fin.ext (by show b.val * 2064 + r.val = 2064 * b.val + r.val; omega))

/-- The reference's norm of the sequences, without their meta tokens, at a row and lane. -/
theorem ref_apply (x : FVec Ideal S32x2064x1024 .f32) (g : FVec Ideal S1024 .f32) (b : Fin 32) (r : Fin 2048) (l : Fin 1024) :
    extractStridedSlice S32x2048x1024 ![0, 16, 0] (mulf (mulf x (broadcastInDim S32x2064x1024 ![0, 1, 2] bcast_S32x2064x1_S32x2064x1024_0_1_2 (Host.rsqrt (addf (Host.divf (broadcastInDim S32x2064x1 ![0, 1] bcast_S32x2064_S32x2064x1_0_1 (Host.reduceAdd (mulf x x) (constant S_ .f32 0x00000000#32) reducesTo_S32x2064x1024_S32x2064_d2 h_S_)) (broadcastInDim S32x2064x1 ![] bcast_S_S32x2064x1 (constant S_ .f32 0x44800000#32))) (broadcastInDim S32x2064x1 ![] bcast_S_S32x2064x1 (constant S_ .f32 0x3727C5AC#32)))))) (broadcastInDim S32x2064x1024 ![0, 1, 2] bcast_S1x1x1024_S32x2064x1024_0_1_2 (broadcastInDim S1x1x1024 ![2] bcast_S1024_S1x1x1024_2 g))) slices_S32x2064x1024_S32x2048x1024_0_16_0 (ix3 b r l : S32x2048x1024.Idx)
      = Cert.Row.normRow (fun k => x (ix3 b (⟨16 + r.val, by omega⟩ : Fin 2064) k)) (fun k => g (ix1 k)) l := by
  pointwise
  rfl

end Cert.Reference6Ideal.Norm

namespace Cert.Reference7Ideal.Norm

open Cert.Reference7Ideal Cert.Reference7Ideal.Gen Idealize.ShloMosaic Idealize.ShloMosaic.Tactic

/-- The sample's sequences in the hidden state. -/
def seqs (h : FVec Ideal S82944x1024 .f32) : FVec Ideal S8x2064x1024 .f32 :=
  shapeCast _ (extractStridedSlice S16512x1024 ![66048, 0] h slices_S82944x1024_S16512x1024_66048_0) shapeCasts_S16512x1024_S8x2064x1024

/-- A sequence's row is a row of the hidden state. -/
theorem seqs_apply (h : FVec Ideal S82944x1024 .f32) (b : Fin 8) (r : Fin 2064) (k : Fin 1024) :
    seqs h (ix3 b r k) = h (ix2 (⟨2064 * (32 + b.val) + r.val, by omega⟩ : Fin 82944) k) := by
  pointwise [seqs]
  exact congrArg (fun q => h (ix2 q k)) (Fin.ext (by show 66048 + (b.val * 2064 + r.val) = 2064 * (32 + b.val) + r.val; omega))

/-- The reference's norm of the sequences, without their meta tokens, at a row and lane. -/
theorem ref_apply (x : FVec Ideal S8x2064x1024 .f32) (g : FVec Ideal S1024 .f32) (b : Fin 8) (r : Fin 2048) (l : Fin 1024) :
    extractStridedSlice S8x2048x1024 ![0, 16, 0] (mulf (mulf x (broadcastInDim S8x2064x1024 ![0, 1, 2] bcast_S8x2064x1_S8x2064x1024_0_1_2 (Host.rsqrt (addf (Host.divf (broadcastInDim S8x2064x1 ![0, 1] bcast_S8x2064_S8x2064x1_0_1 (Host.reduceAdd (mulf x x) (constant S_ .f32 0x00000000#32) reducesTo_S8x2064x1024_S8x2064_d2 h_S_)) (broadcastInDim S8x2064x1 ![] bcast_S_S8x2064x1 (constant S_ .f32 0x44800000#32))) (broadcastInDim S8x2064x1 ![] bcast_S_S8x2064x1 (constant S_ .f32 0x3727C5AC#32)))))) (broadcastInDim S8x2064x1024 ![0, 1, 2] bcast_S1x1x1024_S8x2064x1024_0_1_2 (broadcastInDim S1x1x1024 ![2] bcast_S1024_S1x1x1024_2 g))) slices_S8x2064x1024_S8x2048x1024_0_16_0 (ix3 b r l : S8x2048x1024.Idx)
      = Cert.Row.normRow (fun k => x (ix3 b (⟨16 + r.val, by omega⟩ : Fin 2064) k)) (fun k => g (ix1 k)) l := by
  pointwise
  rfl

end Cert.Reference7Ideal.Norm

end
-- ==== Proof.Layers.lean ====
/- The values of the projections and the final norms: each kernel ends with what its reference ends with. -/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.On_qkv_real
public import proofs.«01_k».proof.Proof.InKernel
public import proofs.«01_k».proof.Proof.InRef
public import proofs.«01_k».proof.Proof.OutKernel
public import proofs.«01_k».proof.Proof.OutRef
public import proofs.«01_k».proof.Proof.WoKernel
public import proofs.«01_k».proof.Proof.QkvFinal
public import proofs.«01_k».proof.Proof.QkvRef
public import proofs.«01_k».proof.Proof.NormKernel
public import proofs.«01_k».proof.Proof.NormKernel7
public import proofs.«01_k».proof.Proof.NormRef
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem

/-- An index of a matrix is its row and column. -/
theorem idx2 {n k : ℕ} (i : (⟨2, ![n, k]⟩ : Shape).Idx) : ∃ (r : Fin n) (l : Fin k), i = ix2 r l :=
  ⟨i 0, i 1, funext fun a => by fin_cases a <;> rfl⟩

/-- An index of a stack of matrices is its matrix, row and column. -/
theorem idx3 {b n k : ℕ} (i : (⟨3, ![b, n, k]⟩ : Shape).Idx) : ∃ (q : Fin b) (r : Fin n) (l : Fin k), i = ix3 q r l :=
  ⟨i 0, i 1, i 2, funext fun a => by fin_cases a <;> rfl⟩

/-- The mask of the query, key and value results selects the rows the sequences fill. -/
theorem qkv_row (x : Cert.On_qkv_real.S82944x1024.Idx → EReal) (g : Cert.On_qkv_real.S1024.Idx → EReal) (w : Cert.On_qkv_real.S1024x3072.Idx → EReal) (r : Fin 82944) (l : Fin 1024) :
    ((Cert.On_qkv_real.fn (F := Ideal) x g w).1 (ix2 r l) = 1#1 → r.val < 82560)
    ∧ ((Cert.On_qkv_real.fn (F := Ideal) x g w).2.1 (ix2 r l) = 1#1 → r.val < 82560)
    ∧ ((Cert.On_qkv_real.fn (F := Ideal) x g w).2.2 (ix2 r l) = 1#1 → r.val < 82560) :=
  ⟨Cert.Att.slt_small r.val r.isLt, Cert.Att.slt_small r.val r.isLt, Cert.Att.slt_small r.val r.isLt⟩

/-- The scan layer's input projection: the kernel's three results are the reference's. -/
theorem in_proj : Cert.algebraic_Kernel2Ideal_Reference2Ideal := by
  intro m g m' g' _ hargs
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N,
    fun c => (Cert.Kernel2Ideal.Gen.dats m 0 c).arrAt 5 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h0, h1, h2, hk⟩ := h c
  obtain ⟨e0, e1, e2⟩ := hargs c
  refine ⟨h0.trans ?_, h1.trans ?_, h2.trans ?_, hk⟩
  · refine Eq.trans ?_ (Cert.Kernel2Ideal.Proj.final3 m c).symm
    funext i
    obtain ⟨q, l, rfl⟩ := idx2 i
    refine (Cert.Reference2Ideal.Proj.z_apply (Cert.Reference2Ideal.Proj.all _ _ _) q l).trans ((Cert.Reference2Ideal.Proj.all_apply _ _ _ q _).trans ?_)
    rw [e0, e1, e2]
    rfl
  · refine Eq.trans ?_ (Cert.Kernel2Ideal.Proj.final4 m c).symm
    funext i
    obtain ⟨q, l, rfl⟩ := idx2 i
    refine (Cert.Reference2Ideal.Proj.x_apply (Cert.Reference2Ideal.Proj.all _ _ _) q l).trans ((Cert.Reference2Ideal.Proj.all_apply _ _ _ q _).trans ?_)
    rw [e0, e1, e2]
    rfl
  · refine Eq.trans ?_ (Cert.Kernel2Ideal.Proj.final5 m c).symm
    funext i
    obtain ⟨q, l, rfl⟩ := idx2 i
    refine (Cert.Reference2Ideal.Proj.dt_apply (Cert.Reference2Ideal.Proj.all _ _ _) q l).trans ?_
    simp only [Cert.Reference2Ideal.Proj.all_apply]
    rw [e0, e1, e2]
    rfl

/-- The scan layer's output projection: the kernel's result is the reference's. -/
theorem out_proj : Cert.algebraic_Kernel3Ideal_Reference3Ideal := by
  intro m g m' g' _ hargs
  refine ⟨fun c => (Cert.Kernel3Ideal.Gen.dats m 0 c).arrAt 3 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run m' g')
  obtain ⟨e0, e1, e2⟩ := hargs c
  refine Eq.trans ?_ (Cert.Kernel3Ideal.Proj.final m c).symm
  funext i
  obtain ⟨q, l, rfl⟩ := idx2 i
  refine (Cert.Reference3Ideal.Proj.ref_apply _ _ _ q l).trans ?_
  rw [e0, e1, e2]
  rfl

/-- The attention layer's output projection: the kernel's result is the reference's. -/
theorem wo : Cert.algebraic_Kernel5Ideal_Reference5Ideal := by
  intro m g m' g' _ hargs
  refine ⟨fun c => (Cert.Kernel5Ideal.Gen.dats m 0 c).arrAt 3 Cert.Kernel5Ideal.cfg0.N, Cert.Kernel5Ideal.Value.run_blocks m g, ?_⟩
  refine (θ_run Cert.Reference5Ideal.defs _ _).mono (fun r h c => ⟨(h c).1.trans ?_, (h c).2⟩) (Cert.Reference5Ideal.Value.run m' g')
  obtain ⟨e0, e1, e2⟩ := hargs c
  refine Eq.trans ?_ (Cert.Kernel5Ideal.Proj.final m c).symm
  funext i
  obtain ⟨q, l, rfl⟩ := idx2 i
  refine (Cert.Reference5Ideal.Proj.ref_apply _ _ _ q l).trans ?_
  rw [e0, e1, e2]
  rfl

/-- The query, key and value projections: on the rows the sequences fill, the kernel's three results are the reference's. -/
theorem qkv : Cert.algebraic_Kernel4Ideal_Reference4Ideal_on_qkv_real := by
  intro m g m' g' _ hargs
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    fun c => (Cert.Kernel4Ideal.Gen.dats m 0 c).arrAt 7 Cert.Kernel4Ideal.cfg0.N, ?_, ?_⟩
  · refine (θ_run Cert.Kernel4Ideal.defs _ _).mono (fun r h c => ?_) (Cert.Kernel4Ideal.Value.run_blocks m g)
    obtain ⟨h0, h1, h2, hk⟩ := h c
    exact ⟨fun i _ => by rw [h0], fun i _ => by rw [h1], fun i _ => by rw [h2], hk⟩
  refine (θ_run Cert.Reference4Ideal.defs _ _).mono (fun r h c => ?_) (Cert.Reference4Ideal.Value.run m' g')
  obtain ⟨h0, h1, h2, hk⟩ := h c
  obtain ⟨e0, e1, e2⟩ := hargs c
  refine ⟨fun i hi => (congrFun h0 i).trans ?_, fun i hi => (congrFun h1 i).trans ?_, fun i hi => (congrFun h2 i).trans ?_, hk⟩
  · refine Eq.trans ?_ (congrFun (Cert.Kernel4Ideal.Proj.final5 m c).symm i)
    obtain ⟨q, l, rfl⟩ := idx2 i
    refine (Cert.Reference4Ideal.Proj.q_apply m' c q l ((qkv_row _ _ _ q l).1 hi)).trans ?_
    rw [e0, e1, e2]
    unfold Cert.Kernel4Ideal.Proj.Gq Cert.Kernel4Ideal.Proj.cols
    simp only [Nat.zero_add]
    rfl
  · refine Eq.trans ?_ (congrFun (Cert.Kernel4Ideal.Proj.final6 m c).symm i)
    obtain ⟨q, l, rfl⟩ := idx2 i
    refine (Cert.Reference4Ideal.Proj.k_apply m' c q l ((qkv_row _ _ _ q l).2.1 hi)).trans ?_
    rw [e0, e1, e2]
    rfl
  · refine Eq.trans ?_ (congrFun (Cert.Kernel4Ideal.Proj.final7 m c).symm i)
    obtain ⟨q, l, rfl⟩ := idx2 i
    refine (Cert.Reference4Ideal.Proj.v_apply _ _ _ q l ((qkv_row _ _ _ q l).2.2 hi)).trans ?_
    rw [e0, e1, e2]
    rfl

/-- The final norm of the prompts: the kernel's result is the reference's. -/
theorem norm_prompts : Cert.algebraic_Kernel6Ideal_Reference6Ideal := by
  intro m g m' g' _ hargs
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ⟨(h c).1.trans ?_, (h c).2⟩) (Cert.Reference6Ideal.Value.run m' g')
  obtain ⟨e0, e1⟩ := hargs c
  refine Eq.trans ?_ (Cert.Kernel6Ideal.Norm.final m c).symm
  funext i
  obtain ⟨b, q, l, rfl⟩ := idx3 i
  refine (Cert.Reference6Ideal.Norm.ref_apply (Cert.Reference6Ideal.Norm.seqs _) _ b q l).trans ?_
  simp only [Cert.Reference6Ideal.Norm.seqs_apply]
  rw [e0, e1]
  rfl

/-- The final norm of the samples: the kernel's result is the reference's. -/
theorem norm_samples : Cert.algebraic_Kernel7Ideal_Reference7Ideal := by
  intro m g m' g' _ hargs
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ⟨(h c).1.trans ?_, (h c).2⟩) (Cert.Reference7Ideal.Value.run m' g')
  obtain ⟨e0, e1⟩ := hargs c
  refine Eq.trans ?_ (Cert.Kernel7Ideal.Norm.final m c).symm
  funext i
  obtain ⟨b, q, l, rfl⟩ := idx3 i
  refine (Cert.Reference7Ideal.Norm.ref_apply (Cert.Reference7Ideal.Norm.seqs _) _ b q l).trans ?_
  simp only [Cert.Reference7Ideal.Norm.seqs_apply]
  rw [e0, e1]
  rfl

end Cert.Proof

end
-- ==== Proof.lean ====
/- The claims, assembled: each program's frame, that idealizing preserves the kernel, and the values of each call. -/
module

public import proofs.«01_k».proof.Defs
public import proofs.«01_k».proof.Proof.Gen.Kernel.Frame
public import proofs.«01_k».proof.Proof.Gen.KernelIdeal.Value
public import proofs.«01_k».proof.Proof.Gen.On_real_rows
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.On_qkv_real
public import proofs.«01_k».proof.Proof.KRun
public import proofs.«01_k».proof.Proof.RefValue
public import proofs.«01_k».proof.Proof.Finite
public import proofs.«01_k».proof.Proof.Layers
public import Idealize.ShloMosaic.Adequacy
public import Idealize.ShloMosaic.Init

@[expose] public section

noncomputable section

namespace Cert.Proof

open Idealize.ShloMosaic Idealize.SL.Sem

/-- The reference ends with its arguments unchanged and every counter at zero. -/
theorem frame_r : Cert.quiescent_ReferenceIdeal :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- On the rows the sequences fill, the kernel and the reference end with the same attention output. -/
theorem attention : Cert.algebraic_KernelIdeal_ReferenceIdeal_on_real_rows_pre_finite_qk := by
  intro m g m' g' hpre hargs
  refine ⟨fun c => (Cert.KernelIdeal.Gen.dats m 0 c).arrAt 8 Cert.KernelIdeal.cfg0.N, ?_, ?_⟩
  · exact (θ_run Cert.KernelIdeal.defs _ _).mono (fun r h c => ⟨fun i _ => by rw [(h c).1], (h c).2⟩) (Cert.KernelIdeal.Value.run_blocks m g)
  · refine (θ_run Cert.ReferenceIdeal.defs _ _).mono (fun r h c => ⟨fun i hi => ?_, (h c).2⟩) (Cert.ReferenceIdeal.Value.run m' g')
    obtain ⟨hq, hk⟩ := Cert.Att.real_of_pre _ _ _ _ _ _ _ _ (hpre c)
    obtain ⟨r0, l, rfl⟩ : ∃ (r : Fin 82944) (l : Fin 1024), i = ix2 r l := ⟨i 0, i 1, funext fun a => by fin_cases a <;> rfl⟩
    have hr := Cert.Att.row_lt _ _ _ _ _ _ _ _ _ _ hi
    obtain ⟨e0, e1, e2, e3, e4, e5, e6, e7⟩ := hargs c
    refine (congrFun (h c).1 _).trans ((Cert.ReferenceIdeal.Att.res_apply m' c r0 l hr).trans (Eq.trans ?_ (Cert.KernelIdeal.Att.final_apply m c hq hk r0 l hr).symm))
    rw [e0, e1, e2, e3, e4, e5, e6, e7]

/-- The reference of the scan layer's input projection ends with its arguments unchanged and every counter at zero. -/
theorem frame_r2 : Cert.quiescent_Reference2Ideal :=
  fun m ρ _ => (θ_run Cert.Reference2Ideal.defs _ _).mono (fun r h => ⟨fun c => (h c).2.2.2, sem_eq_zero_of_no_sems (by decide) r.2⟩)
    (Cert.Reference2Ideal.Value.run (F := Ideal) m ρ)

/-- The reference of the scan layer's output projection ends with its arguments unchanged and every counter at zero. -/
theorem frame_r3 : Cert.quiescent_Reference3Ideal :=
  fun m ρ _ => (θ_run Cert.Reference3Ideal.defs _ _).mono (fun r h => ⟨fun c => (h c).2, sem_eq_zero_of_no_sems (by decide) r.2⟩)
    (Cert.Reference3Ideal.Value.run (F := Ideal) m ρ)

/-- The reference of the query, key and value projections ends with its arguments unchanged and every counter at zero. -/
theorem frame_r4 : Cert.quiescent_Reference4Ideal :=
  fun m ρ _ => (θ_run Cert.Reference4Ideal.defs _ _).mono (fun r h => ⟨fun c => (h c).2.2.2, sem_eq_zero_of_no_sems (by decide) r.2⟩)
    (Cert.Reference4Ideal.Value.run (F := Ideal) m ρ)

/-- The reference of the attention layer's output projection ends with its arguments unchanged and every counter at zero. -/
theorem frame_r5 : Cert.quiescent_Reference5Ideal :=
  fun m ρ _ => (θ_run Cert.Reference5Ideal.defs _ _).mono (fun r h => ⟨fun c => (h c).2, sem_eq_zero_of_no_sems (by decide) r.2⟩)
    (Cert.Reference5Ideal.Value.run (F := Ideal) m ρ)

/-- The reference of the prompts' final norm ends with its arguments unchanged and every counter at zero. -/
theorem frame_r6 : Cert.quiescent_Reference6Ideal :=
  fun m ρ _ => (θ_run Cert.Reference6Ideal.defs _ _).mono (fun r h => ⟨fun c => (h c).2, sem_eq_zero_of_no_sems (by decide) r.2⟩)
    (Cert.Reference6Ideal.Value.run (F := Ideal) m ρ)

/-- The reference of the samples' final norm ends with its arguments unchanged and every counter at zero. -/
theorem frame_r7 : Cert.quiescent_Reference7Ideal :=
  fun m ρ _ => (θ_run Cert.Reference7Ideal.defs _ _).mono (fun r h => ⟨fun c => (h c).2, sem_eq_zero_of_no_sems (by decide) r.2⟩)
    (Cert.Reference7Ideal.Value.run (F := Ideal) m ρ)

/-- Every claim: the frames of all programs, that idealizing preserves each kernel, and the value of each call. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Att.preFacts, Cert.On_real_rows.Gen.facts, Cert.On_qkv_real.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  IdealRules.named_const.statement Cert.KernelIdeal.κ "mask" .f32 0xF149F2CA#32 ⊥ rfl, attention,
  trivial, in_proj, trivial, out_proj, trivial, qkv, trivial, wo, trivial, norm_prompts, trivial, norm_samples⟩

end Cert.Proof

end
